-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x8064 : Shape := ⟨3, ![8, 2048, 8064]⟩
abbrev S8x2048x1280 : Shape := ⟨3, ![8, 2048, 1280]⟩
abbrev S1280 : Shape := ⟨1, ![1280]⟩
abbrev S8064x1280 : Shape := ⟨2, ![8064, 1280]⟩
abbrev S16384x8064 : Shape := ⟨2, ![16384, 8064]⟩
abbrev S16384x1280 : Shape := ⟨2, ![16384, 1280]⟩
abbrev S1x1280 : Shape := ⟨2, ![1, 1280]⟩
abbrev S1x8064 : Shape := ⟨2, ![1, 8064]⟩
abbrev S16384x256 : Shape := ⟨2, ![16384, 256]⟩
abbrev S256x1280 : Shape := ⟨2, ![256, 1280]⟩
abbrev S1x256 : Shape := ⟨2, ![1, 256]⟩
abbrev S16x256 : Shape := ⟨2, ![16, 256]⟩
abbrev S1024x256 : Shape := ⟨2, ![1024, 256]⟩
abbrev S64x16x256 : Shape := ⟨3, ![64, 16, 256]⟩
abbrev S256 : Shape := ⟨1, ![256]⟩
abbrev S256x256 : Shape := ⟨2, ![256, 256]⟩
abbrev S1024x1280 : Shape := ⟨2, ![1024, 1280]⟩
abbrev S128x256 : Shape := ⟨2, ![128, 256]⟩
abbrev S256x128 : Shape := ⟨2, ![256, 128]⟩
abbrev S256x1 : Shape := ⟨2, ![256, 1]⟩
abbrev S8064 : Shape := ⟨1, ![8064]⟩

abbrev nBuf : Space → Nat
  | .hbm => 12
  | .vmem => 13
  | .smem => 0
  | _ => 0

abbrev bufTy : (tb : Table) → Fin (tcTables nBuf tb) → BufTy
  | .hbm, ⟨0, _⟩ => ⟨S8x2048x8064, .bf16⟩
  | .hbm, ⟨1, _⟩ => ⟨S8x2048x1280, .fp8e5m2⟩
  | .hbm, ⟨2, _⟩ => ⟨S1280, .f32⟩
  | .hbm, ⟨3, _⟩ => ⟨S8064x1280, .f32⟩
  | .hbm, ⟨4, _⟩ => ⟨S16384x8064, .bf16⟩
  | .hbm, ⟨5, _⟩ => ⟨S16384x1280, .fp8e5m2⟩
  | .hbm, ⟨6, _⟩ => ⟨S1x1280, .f32⟩
  | .hbm, ⟨7, _⟩ => ⟨S8064x1280, .f32⟩
  | .hbm, ⟨8, _⟩ => ⟨S16384x8064, .fp8e4m3⟩
  | .hbm, ⟨9, _⟩ => ⟨S1x8064, .f32⟩
  | .hbm, ⟨10, _⟩ => ⟨S8x2048x8064, .fp8e4m3⟩
  | .hbm, ⟨11, _⟩ => ⟨S8064, .f32⟩
  | .local _ .vmem, ⟨0, _⟩ => ⟨S16384x256, .bf16⟩
  | .local _ .vmem, ⟨1, _⟩ => ⟨S16384x256, .bf16⟩
  | .local _ .vmem, ⟨2, _⟩ => ⟨S16384x1280, .fp8e5m2⟩
  | .local _ .vmem, ⟨3, _⟩ => ⟨S1x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S16384x256, .fp8e4m3⟩
  | .local _ .vmem, ⟨9, _⟩ => ⟨S16384x256, .fp8e4m3⟩
  | .local _ .vmem, ⟨10, _⟩ => ⟨S1x256, .f32⟩
  | .local _ .vmem, ⟨11, _⟩ => ⟨S1x256, .f32⟩
  | .local _ .vmem, ⟨12, _⟩ => ⟨S256x1280, .f32⟩
  | _, _ => ⟨S8x2048x8064, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c1024_i32 : BitVec 32 := 1024#32
  let v76 : BitVec 32 := Scalar.muli arg9 c1024_i32
  v76
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c1024_i32 : BitVec 32 := 1024#32
  let v76 : BitVec 32 := Scalar.muli arg9 c1024_i32
  let v77 : BitVec 32 := v76
  let v78 : Index := Scalar.indexCast v77
  let c0_34 : Index := 0#32
  ![v78.toNat, 0]
@[reducible] def k0_t2_loop : Scf.Loop 32 :=
  let c0_i32_22 : BitVec 32 := 0#32
  let c16_i32_23 : BitVec 32 := 16#32
  let v61 : BitVec 32 := Scalar.addi c0_i32_22 c16_i32_23
  let c1_i32_24 : BitVec 32 := 1#32
  ⟨c0_i32_22, v61, c1_i32_24⟩
def k0_mult2 (k0_t2 : Fin k0_t2_loop.trips) : BitVec 32 :=
  let c0_i32_22 : BitVec 32 := 0#32
  let c1_i32_24 : BitVec 32 := 1#32
  let arg9 : BitVec 32 := Scf.iv c0_i32_22 c1_i32_24 k0_t2
  let c1024_i32 : BitVec 32 := 1024#32
  let v76 : BitVec 32 := Scalar.muli arg9 c1024_i32
  v76
def k0_off2 (k0_t2 : Fin k0_t2_loop.trips) : Fin 2 → Nat :=
  let c0_i32_22 : BitVec 32 := 0#32
  let c1_i32_24 : BitVec 32 := 1#32
  let arg9 : BitVec 32 := Scf.iv c0_i32_22 c1_i32_24 k0_t2
  let c1024_i32 : BitVec 32 := 1024#32
  let v76 : BitVec 32 := Scalar.muli arg9 c1024_i32
  let v77 : BitVec 32 := v76
  let v78 : Index := Scalar.indexCast v77
  let c0_34 : Index := 0#32
  ![v78.toNat, 0]
def k0_off3 (k0_t2 : Fin k0_t2_loop.trips) : Fin 2 → Nat :=
  let c0_i32_22 : BitVec 32 := 0#32
  let c1_i32_24 : BitVec 32 := 1#32
  let arg9 : BitVec 32 := Scf.iv c0_i32_22 c1_i32_24 k0_t2
  let c1024_i32 : BitVec 32 := 1024#32
  let v76 : BitVec 32 := Scalar.muli arg9 c1024_i32
  let v77 : BitVec 32 := v76
  let v92 : Index := Scalar.indexCast v77
  let c0_40 : Index := 0#32
  ![v92.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x1280 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16384x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x2048x8064 : Shape := ⟨3, ![8, 2048, 8064]⟩
abbrev S8x2048x1280 : Shape := ⟨3, ![8, 2048, 1280]⟩
abbrev S1280 : Shape := ⟨1, ![1280]⟩
abbrev S8064x1280 : Shape := ⟨2, ![8064, 1280]⟩
abbrev S16384x8064 : Shape := ⟨2, ![16384, 8064]⟩
abbrev S16384x1280 : Shape := ⟨2, ![16384, 1280]⟩
abbrev S1x1280 : Shape := ⟨2, ![1, 1280]⟩
abbrev S1x8064 : Shape := ⟨2, ![1, 8064]⟩
abbrev S8064 : Shape := ⟨1, ![8064]⟩
abbrev S8064x1 : Shape := ⟨2, ![8064, 1]⟩

abbrev nBuf : Space → Nat
  | .hbm => 12
  | .vmem => 7
  | .smem => 0
  | _ => 0

abbrev bufTy : (tb : Table) → Fin (tcTables nBuf tb) → BufTy
  | .hbm, ⟨0, _⟩ => ⟨S8x2048x8064, .bf16⟩
  | .hbm, ⟨1, _⟩ => ⟨S8x2048x1280, .fp8e5m2⟩
  | .hbm, ⟨2, _⟩ => ⟨S1280, .f32⟩
  | .hbm, ⟨3, _⟩ => ⟨S8064x1280, .f32⟩
  | .hbm, ⟨4, _⟩ => ⟨S16384x8064, .bf16⟩
  | .hbm, ⟨5, _⟩ => ⟨S16384x1280, .fp8e5m2⟩
  | .hbm, ⟨6, _⟩ => ⟨S1x1280, .f32⟩
  | .hbm, ⟨7, _⟩ => ⟨S8064x1280, .f32⟩
  | .hbm, ⟨8, _⟩ => ⟨S16384x8064, .fp8e4m3⟩
  | .hbm, ⟨9, _⟩ => ⟨S1x8064, .f32⟩
  | .hbm, ⟨10, _⟩ => ⟨S8x2048x8064, .fp8e4m3⟩
  | .hbm, ⟨11, _⟩ => ⟨S8064, .f32⟩
  | .local _ .vmem, ⟨0, _⟩ => ⟨S16384x8064, .bf16⟩
  | .local _ .vmem, ⟨1, _⟩ => ⟨S16384x1280, .fp8e5m2⟩
  | .local _ .vmem, ⟨2, _⟩ => ⟨S1x1280, .f32⟩
  | .local _ .vmem, ⟨3, _⟩ => ⟨S8064x1280, .f32⟩
  | .local _ .vmem, ⟨4, _⟩ => ⟨S8064x1280, .f32⟩
  | .local _ .vmem, ⟨5, _⟩ => ⟨S16384x8064, .fp8e4m3⟩
  | .local _ .vmem, ⟨6, _⟩ => ⟨S1x8064, .f32⟩
  | _, _ => ⟨S8x2048x8064, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x8064 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1280 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8064x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8064x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x8064 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8064 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelFrame.lean ====
/-
The kernel as its machine program, at the bit-exact floats: it terminates, faults nowhere, leaves its four
arguments as it found them and every semaphore counter at zero. Nothing is said here of what its results hold,
so the three output windows are FORGOTTEN: their blocks may hold anything after the body.

  sound_body       one grid point's body: the four input blocks are left as found, the three output blocks and the
                   scratch accumulator are left at some contents;
  body_obligation  the same in the pipeline's form;
  frame_kernel     the claim.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Tactic

@[expose] public section

set_option maxRecDepth 16384
set_option maxHeartbeats 4000000

noncomputable section

namespace Cert.Proof.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's variants: none. -/
abbrev 𝒱₀ : Variants := Variants.none

/-- A whole memref's elements at any contents: the memref is owned at some contents. -/
theorem owns_any (c : Dev nD) {sp : Space} {s : Shape} {e : EltTy} (arg : Memref sig .tc sp s e)
    (f : BufTy.Contents (Elt F) arg.view.ty) :
    ((arg.view.loc (c : Thread nD τ) ↦[arg.view.set]{fullShare} f) : sProp 𝕄)
      ⊢ iprop(∃ X, owns (c : Thread nD τ) arg fullShare X) := by
  unfold owns
  iintro H
  iexists (arg.view.read (Elt F) f)
  iexists f
  isplitr; · ipureintro; rfl
  iexact H

/-- One grid point: from the four input blocks at any contents `X1 … X4`, and the output blocks and the scratch at
    any, the body runs and leaves the inputs as found, the outputs and the scratch at some contents. -/
theorem sound_body (c : Dev nD) (E : Set ℕ) (i : grid0.Coords)
    (arg1 : Memref sig .tc .vmem S16384x256 .bf16) (harg1 : arg1.IsWhole)
    (arg2 : Memref sig .tc .vmem S16384x1280 .fp8e5m2) (harg2 : arg2.IsWhole)
    (arg3 : Memref sig .tc .vmem S1x1280 .f32) (harg3 : arg3.IsWhole)
    (arg4 : Memref sig .tc .vmem S256x1280 .f32) (harg4 : arg4.IsWhole)
    (arg5 : Memref sig .tc .vmem S256x1280 .f32) (harg5 : arg5.IsWhole)
    (arg6 : Memref sig .tc .vmem S16384x256 .fp8e4m3) (harg6 : arg6.IsWhole)
    (arg7 : Memref sig .tc .vmem S1x256 .f32) (harg7 : arg7.IsWhole)
    (arg8 : Memref sig .tc .vmem S256x1280 .f32) (harg8 : arg8.IsWhole)
    (X1 : S16384x256.Idx → Elt F .bf16) (X2 : S16384x1280.Idx → Elt F .fp8e5m2) (X3 : S1x1280.Idx → Elt F .f32)
    (X4 : S256x1280.Idx → Elt F .f32)
    (K : PUnit → sProp 𝕄) :
    iprop((owns (c : Thread nD τ) arg1 fullShare X1 ∗ owns (c : Thread nD τ) arg2 fullShare X2
            ∗ owns (c : Thread nD τ) arg3 fullShare X3 ∗ owns (c : Thread nD τ) arg4 fullShare X4
            ∗ (∃ X, owns (c : Thread nD τ) arg5 fullShare X) ∗ (∃ X, owns (c : Thread nD τ) arg6 fullShare X)
            ∗ (∃ X, owns (c : Thread nD τ) arg7 fullShare X) ∗ (∃ X, owns (c : Thread nD τ) arg8 fullShare X))
          ∗ (iprop(owns (c : Thread nD τ) arg1 fullShare X1 ∗ owns (c : Thread nD τ) arg2 fullShare X2
            ∗ owns (c : Thread nD τ) arg3 fullShare X3 ∗ owns (c : Thread nD τ) arg4 fullShare X4
            ∗ (∃ X, owns (c : Thread nD τ) arg5 fullShare X) ∗ (∃ X, owns (c : Thread nD τ) arg6 fullShare X)
            ∗ (∃ X, owns (c : Thread nD τ) arg7 fullShare X) ∗ (∃ X, owns (c : Thread nD τ) arg8 fullShare X)) -∗ K ⟨⟩))
      ⊢ wp frame (wpE (defs₀ (F := F)) 𝒱₀ c none) E
          (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton, k0_part2_eq_skeleton]
  unfold owns
  iintro ⟨⟨⟨%f1, %hf1, H1⟩, ⟨%f2, %hf2, H2⟩, ⟨%f3, %hf3, H3⟩, ⟨%f4, %hf4, H4⟩, ⟨%d5, %f5, -, H5⟩, ⟨%d6, %f6, -, H6⟩,
    ⟨%d7, %f7, -, H7⟩, ⟨%d8, %f8, -, H8⟩⟩, Hk⟩
  subst hf1 hf2 hf3 hf4
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iapply (owns_any c arg5 _); iexact H5
  isplitl [H6]; · iapply (owns_any c arg6 _); iexact H6
  isplitl [H7]; · iapply (owns_any c arg7 _); iexact H7
  iapply (owns_any c arg8 _); iexact H8

/-- The part inside the array of the block of `x` (of the master gradient) that point `t` fetches, -/
def xblk (c : Dev nD) (t : Fin cfg0.N) : (win0_0.xblock (grid0.coords t)).Idx → Elt F .bf16 := iblk m c 0 t
def gblk (c : Dev nD) (t : Fin cfg0.N) : (win0_3.xblock (grid0.coords t)).Idx → Elt F .f32 := iblk m c 3 t
/-- and the whole block, filled out with zero words past the array's end. -/
def xfull (c : Dev nD) (t : Fin cfg0.N) : S16384x256.Idx → Elt F .bf16 :=
  win0_0.fill (grid0.coords t) (fun _ => Scalar.ofBits .bf16 0#16) (xblk m c t)
def gfull (c : Dev nD) (t : Fin cfg0.N) : S256x1280.Idx → Elt F .f32 :=
  win0_3.fill (grid0.coords t) (fun _ => Scalar.ofBits .f32 0#32) (gblk m c t)

/-- The proof data of the pipeline: the arrays as the host lines before the region leave them; after the body the
    input blocks as fetched (on the elements inside the array, for the blocks that overhang it). The output windows
    are forgotten, so what stands for them here is a filler. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => gfull m c t
    | ⟨4, _⟩ => fun _ => Scalar.ofBits .f32 0#32
    | ⟨5, _⟩ => fun _ => Scalar.ofBits .fp8e4m3 0#8
    | ⟨6, _⟩ => fun _ => Scalar.ofBits .f32 0#32
  Φ _ := Pipeline.ΦA spec0 c
  q _ := fullShare
  owed _ := 0

/-- The output windows, of which nothing is recorded. -/
def fgt : Fin cfg0.W → Bool
  | ⟨4, _⟩ => true
  | ⟨5, _⟩ => true
  | ⟨6, _⟩ => true
  | _ => false

/-- The buffers that the host lines after the region write. -/
def tailRefs : Finset (Ref sig .tc) := {main_v4, main_v5}

theorem before_0 (c : Dev nD) (t : Fin cfg0.N) (d) :
    (dats m 0 c).before 0 t d = win0_0.fill (grid0.coords t) d (xblk m c t) := by
  unfold Dat.before; rw [if_pos (fetch0_0 t)]; rfl
theorem before_3 (c : Dev nD) (t : Fin cfg0.N) (d) :
    (dats m 0 c).before 3 t d = win0_3.fill (grid0.coords t) d (gblk m c t) := by
  unfold Dat.before; rw [if_pos (fetch0_3 t)]; rfl
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d

theorem after_0 (c : Dev nD) (t : Fin cfg0.N) : (dats m 0 c).after 0 t = xfull m c t := by dsimp only [dats]
theorem after_3 (c : Dev nD) (t : Fin cfg0.N) : (dats m 0 c).after 3 t = gfull m c t := by dsimp only [dats]
theorem cut_x (c : Dev nD) (t : Fin cfg0.N) : (cfg0.win 0).cut (cfg0.grid.coords t) (xfull m c t) = xblk m c t :=
  win0_0.cut_fill (grid0.coords t) (fun _ => Scalar.ofBits .bf16 0#16) (xblk m c t)
theorem cut_g (c : Dev nD) (t : Fin cfg0.N) : (cfg0.win 3).cut (cfg0.grid.coords t) (gfull m c t) = gblk m c t :=
  win0_3.cut_fill (grid0.coords t) (fun _ => Scalar.ofBits .f32 0#32) (gblk m c t)

/-- The body's obligation in the pipeline's form, the output windows forgotten. -/
theorem body_obligation (c : Dev nD) : BodyObligationLoose (dats m 0 c) (defs₀ (F := F)) 𝒱₀ () Set.univ fgt := fun t => by
  rw [bigSep_W0, bigSep_W0]
  simp only [show fgt 0 = false from rfl, show fgt 1 = false from rfl, show fgt 2 = false from rfl,
    show fgt 3 = false from rfl, show fgt 4 = true from rfl, show fgt 5 = true from rfl, show fgt 6 = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨%f8, H8⟩, Hp⟩, Ho, ⟨%d0, H0⟩, ⟨%d1, H1⟩, ⟨%d2, H2⟩, ⟨%d3, H3⟩, H4, H5, H6⟩
  rw [before_0 m c t d0, before_1 m c t d1, before_2 m c t d2, before_3 m c t d3]
  iapply (sound_body (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (Memref.whole cc0_scratch0) (Memref.isWhole_whole _)
    (win0_0.fill (grid0.coords t) d0 (xblk m c t)) (iblk m c 1 t) (iblk m c 2 t)
    (win0_3.fill (grid0.coords t) d3 (gblk m c t)) _)
  isplitl [H0 H1 H2 H3 H4 H5 H6 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexists f8
    rw [owns_whole]
    iexact H8
  iintro ⟨H0, H1, H2, H3, H4, H5, H6, ⟨%g8, H8⟩⟩
  isplitl [H8 Hp]
  · isplitl [H8]
    · iexists g8
      rw [owns_whole]
      exact BI.Entails.refl _
    · iexact Hp
  isplitl [Ho]; · iexact Ho
  isplitl [H0]
  · iexists d0
    rw [after_0 m c t, cut_x m c t]
    iexact H0
  isplitl [H1]; · iexact H1
  isplitl [H2]; · iexact H2
  isplitl [H3]
  · iexists d3
    rw [after_3 m c t, cut_g m c t]
    iexact H3
  isplitl [H4]; · iexact H4
  isplitl [H5]; · iexact H5
  iexact H6

/-- What the host lines after the region write lies in `tailRefs`. -/
theorem tail_writes : ∀ ops ∈ ([hostOps1] : List (List (HloOp τ sig (Elt F)))), ∀ op ∈ ops, ∀ b : Ref sig .tc,
    Proc.devRef .tc b ∈ op.writes → b ∈ tailRefs := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.reshape_writes, Finset.mem_singleton] at hb
    by_contra hne
    refine StableHlo.devRef_ne_of_ne (fun e => hne ?_) hb
    subst e
    decide

/-- From any memory with zero counters the program terminates, faults nowhere, and leaves its four arguments as
    launched and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.θ_run_frame_around_T_forget cfgs (dats m) 0 launch0 defs₀ 𝒱₀ fgt tailRefs m ρ main (body_obligation m)
    (fun c => (dats m 0 c).share_full fun _ => rfl) (fun _ _ => rfl) (V0 m) [hostOps1] sfx_sub sfx_fresh sfx_keeps
    tail_writes (hmain m 𝒱₀) (fun _ _ => rfl) (fun _ _ => rfl) _
    (fun r h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      by
        have h3 := (h.1 c).1 3
        rw [RDat.ArrAt_in _ 3 rfl] at h3
        exact Eq.trans h3 (V_main_arg3 m c)⟩, h.2⟩)

/-- `Cert.quiescent_Kernel`: the run, at the bit-exact instance. -/
theorem frame_kernel : Cert.quiescent_Kernel := fun m ρ _ => run_frame (F := Bits) m ρ

end Cert.Proof.KernelRun

end
-- ==== Proof.BlockRun.lean ====
/-
One grid point of the kernel, exactly: what the three output blocks hold after the body, as functions of the four
input blocks. (`X1` a block of 256 columns of `x`, `X2` the whole of `dy`, `X3` the column scales of `dy`, `X4` a
block of 256 rows of the master gradient.)

  amax X1          the running maximum of |x| after the sixteen chunks of 1024 rows, sixteen rows of partial maxima;
  expo, scale      the column exponents and the scales 2^expo (written to the third output);
  codes X1         the quantised block (second output): chunk by chunk, 1024 rows at a time;
  acc X1 X2        the accumulated product of the codes with `dy`, chunk by chunk;
  grad X1 X2 X3 X4 the first output: the master gradient plus the product times the scales;
  sound_body       the body writes exactly these.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic
public import Idealize.ShloMosaic.Lib.WritesUnit
public import Idealize.ShloMosaic.Lib.VecWindow
public import Idealize.ShloMosaic.Lib.Pipeline.Value

@[expose] public section

set_option maxRecDepth 16384
set_option maxHeartbeats 1000000

noncomputable section

namespace Cert.Proof.Block

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The kernel's variants: none. -/
abbrev 𝒱₀ : Variants := Variants.none

/-- Chunk `k` of a block of `x`: rows `1024 k … 1024 k + 1023`, as the first loop reads it, -/
def chunk1 (X1 : S16384x256.Idx → Elt F .bf16) (k : Fin k0_t1_loop.trips) : Vec F S1024x256 .bf16 :=
  View.ld X1 (Rect.unit (s := S16384x256) (k0_off1 k) S1024x256.size (k0_off1_inb k))
/-- as the second loop reads it, -/
def chunk2 (X1 : S16384x256.Idx → Elt F .bf16) (k : Fin k0_t2_loop.trips) : Vec F S1024x256 .bf16 :=
  View.ld X1 (Rect.unit (s := S16384x256) (k0_off2 k) S1024x256.size (k0_off2_inb k))
/-- and the same rows of `dy`. -/
def chunkDy (X2 : S16384x1280.Idx → Elt F .fp8e5m2) (k : Fin k0_t2_loop.trips) : Vec F S1024x1280 .fp8e5m2 :=
  View.ld X2 (Rect.unit (s := S16384x1280) (k0_off3 k) S1024x1280.size (k0_off3_inb k))

/-- The running maxima before trip `k` of the first loop. -/
def amaxAt (X1 : S16384x256.Idx → Elt F .bf16) : ℕ → FVec F S16x256 .bf16
  | 0 => k0_pay2
  | k + 1 => if h : k < k0_t1_loop.trips then k0_pay3 (amaxAt X1 k) (chunk1 X1 ⟨k, h⟩) else amaxAt X1 k

/-- The maxima after the first loop, sixteen partial ones per column. -/
def amax (X1 : S16384x256.Idx → Elt F .bf16) : FVec F S16x256 .bf16 := amaxAt X1 k0_t1_loop.trips

/-- The column exponents. -/
def expo (X1 : S16384x256.Idx → Elt F .bf16) : IVec S1x256 32 := k0_pay4 (amax X1)

/-- The column scales. -/
def scale (X1 : S16384x256.Idx → Elt F .bf16) : FVec F S1x256 .f32 :=
  k0_pay9 (k0_pay6 (amax X1)) (k0_pay7 (amax X1)) k0_pay8

/-- The accumulated product before trip `k` of the second loop, at column exponents `e`. -/
def accAt (e : IVec S1x256 32) (X1 : S16384x256.Idx → Elt F .bf16) (X2 : S16384x1280.Idx → Elt F .fp8e5m2) : ℕ → FVec F S256x1280 .f32
  | 0 => k0_pay10
  | k + 1 => if h : k < k0_t2_loop.trips then
      k0_pay12 e (chunk2 X1 ⟨k, h⟩) (accAt e X1 X2 k) (chunkDy X2 ⟨k, h⟩) else accAt e X1 X2 k

/-- The whole product. -/
def acc (X1 : S16384x256.Idx → Elt F .bf16) (X2 : S16384x1280.Idx → Elt F .fp8e5m2) : FVec F S256x1280 .f32 :=
  accAt (expo X1) X1 X2 k0_t2_loop.trips

/-- The first output block. -/
def grad (X1 : S16384x256.Idx → Elt F .bf16) (X2 : S16384x1280.Idx → Elt F .fp8e5m2) (X3 : S1x1280.Idx → Elt F .f32)
    (X4 : S256x1280.Idx → Elt F .f32) : FVec F S256x1280 .f32 :=
  k0_pay1 X4 (k0_pay13 (k0_pay6 (amax X1)) (k0_pay7 (amax X1)) k0_pay8 X3 (acc X1 X2))

theorem trips2 : k0_t2_loop.trips = 16 := by decide

/-- The chunk that row `r` of a block lies in. -/
def chunkOf (r : Fin 16384) : Fin k0_t2_loop.trips := ⟨r.val / 1024, by rw [trips2]; omega⟩

/-- The quantised block at column exponents `e`: row `r` comes from chunk `r / 1024`. -/
def codesE (e : IVec S1x256 32) (X1 : S16384x256.Idx → Elt F .bf16) : S16384x256.Idx → Elt F .fp8e4m3 := fun y =>
  k0_pay11 e (chunk2 X1 (chunkOf (y 0)))
    (fun a => match a with
      | ⟨0, _⟩ => (⟨(y 0).val % 1024, Nat.mod_lt _ (by decide)⟩ : Fin 1024)
      | ⟨1, _⟩ => y 1)

/-- The quantised block. -/
def codes (X1 : S16384x256.Idx → Elt F .bf16) : S16384x256.Idx → Elt F .fp8e4m3 := codesE (expo X1) X1

/-- The value the first loop carries, as the run names it, is the running maxima. -/
theorem st_eq {c : Dev nD} {i : grid0.Coords}
    (arg1 : Memref sig .tc .vmem S16384x256 .bf16) (harg1 : arg1.IsWhole)
    (arg2 : Memref sig .tc .vmem S16384x1280 .fp8e5m2) (harg2 : arg2.IsWhole)
    (arg3 : Memref sig .tc .vmem S1x1280 .f32) (harg3 : arg3.IsWhole)
    (arg4 : Memref sig .tc .vmem S256x1280 .f32) (harg4 : arg4.IsWhole)
    (arg5 : Memref sig .tc .vmem S256x1280 .f32) (harg5 : arg5.IsWhole)
    (arg6 : Memref sig .tc .vmem S16384x256 .fp8e4m3) (harg6 : arg6.IsWhole)
    (arg7 : Memref sig .tc .vmem S1x256 .f32) (harg7 : arg7.IsWhole)
    (arg8 : Memref sig .tc .vmem S256x1280 .f32) (harg8 : arg8.IsWhole) (f1 : BufTy.Contents (Elt F) arg1.view.ty) (n : ℕ) :
    st_k0_t1 (F := F) 𝒱₀ c none i arg1 harg1 arg2 harg2 arg3 harg3 arg4 harg4 arg5 harg5 arg6 harg6 arg7 harg7 arg8 harg8 f1 k0_pay2 n
      = amaxAt (arg1.view.read (Elt F) f1) n := by
  induction n with
  | zero => rfl
  | succ k ih =>
    by_cases h : k < k0_t1_loop.trips
    · have h1 := st_k0_t1_succ (F := F) 𝒱₀ c none i arg1 harg1 arg2 harg2 arg3 harg3 arg4 harg4 arg5 harg5 arg6 harg6 arg7 harg7 arg8 harg8 f1 k0_pay2 ⟨k, h⟩
      simp only at h1
      rw [h1, ih, amaxAt, dif_pos h]
      unfold tripR_k0_t1 trip_k0_t1
      rfl
    · rw [st_k0_t1.eq_2, amaxAt, dif_neg h, ← ih]; unfold st_k0_t1Step; exact dif_neg h

section Loop2

variable {c : Dev nD} {i : grid0.Coords}
    (arg1 : Memref sig .tc .vmem S16384x256 .bf16) (harg1 : arg1.IsWhole)
    (arg2 : Memref sig .tc .vmem S16384x1280 .fp8e5m2) (harg2 : arg2.IsWhole)
    (arg3 : Memref sig .tc .vmem S1x1280 .f32) (harg3 : arg3.IsWhole)
    (arg4 : Memref sig .tc .vmem S256x1280 .f32) (harg4 : arg4.IsWhole)
    (arg5 : Memref sig .tc .vmem S256x1280 .f32) (harg5 : arg5.IsWhole)
    (arg6 : Memref sig .tc .vmem S16384x256 .fp8e4m3) (harg6 : arg6.IsWhole)
    (arg7 : Memref sig .tc .vmem S1x256 .f32) (harg7 : arg7.IsWhole)
    (arg8 : Memref sig .tc .vmem S256x1280 .f32) (harg8 : arg8.IsWhole)
    (v27 : IVec S1x256 32) (v31 : IVec S1x256 1) (v37 : IVec S1x256 32) (v38 : IVec S1x256 32)
    (f1 : BufTy.Contents (Elt F) arg1.view.ty) (f2 : BufTy.Contents (Elt F) arg2.view.ty)
    (G6 : BufTy.Contents (Elt F) arg6.view.ty) (G8 : BufTy.Contents (Elt F) arg8.view.ty)

/-- The pieces that trip `k` of the second loop writes, at the contents it finds: the chunk's codes, and the
    accumulator with the chunk's product added. -/
theorem trip_eq (k : Fin k0_t2_loop.trips) (f6 : BufTy.Contents (Elt F) arg6.view.ty) (f8 : BufTy.Contents (Elt F) arg8.view.ty) :
    tripL_k0_t2 (F := F) 𝒱₀ c none i arg1 harg1 arg2 harg2 arg3 harg3 arg4 harg4 arg5 harg5 arg6 harg6 arg7 harg7 arg8 harg8
        v27 v31 v37 v38 f1 f2 k f6 f8
      = ([⟨Rect.unit (s := S16384x256) (k0_off2 k) S1024x256.size (k0_off2_inb k),
            k0_pay11 v27 (chunk2 (arg1.view.read (Elt F) f1) k)⟩],
         [⟨Rect.unit (s := S256x1280) ![0, 0] S256x1280.size inb_S256x1280_S256x1280_0_0,
            k0_pay12 v27 (chunk2 (arg1.view.read (Elt F) f1) k)
              (View.ld (arg8.view.read (Elt F) f8) (Rect.unit (s := S256x1280) ![0, 0] S256x1280.size inb_S256x1280_S256x1280_0_0))
              (chunkDy (arg2.view.read (Elt F) f2) k)⟩]) := by
  unfold tripL_k0_t2 trip_k0_t2
  rfl

theorem pb_succ (k : ℕ) (h : k < k0_t2_loop.trips) :
    pb_k0_t2 (F := F) 𝒱₀ c none i arg1 harg1 arg2 harg2 arg3 harg3 arg4 harg4 arg5 harg5 arg6 harg6 arg7 harg7 arg8 harg8
        v27 v31 v37 v38 f1 f2 G6 G8 (k + 1)
      = (⟨Rect.unit (s := S16384x256) (k0_off2 ⟨k, h⟩) S1024x256.size (k0_off2_inb ⟨k, h⟩),
            k0_pay11 v27 (chunk2 (arg1.view.read (Elt F) f1) ⟨k, h⟩)⟩
          :: (pb_k0_t2 (F := F) 𝒱₀ c none i arg1 harg1 arg2 harg2 arg3 harg3 arg4 harg4 arg5 harg5 arg6 harg6 arg7 harg7 arg8 harg8
              v27 v31 v37 v38 f1 f2 G6 G8 k).1,
         ⟨Rect.unit (s := S256x1280) ![0, 0] S256x1280.size inb_S256x1280_S256x1280_0_0,
            k0_pay12 v27 (chunk2 (arg1.view.read (Elt F) f1) ⟨k, h⟩)
              (View.ld (arg8.view.read (Elt F) (arg8.view.writes (Elt F) G8
                (pb_k0_t2 (F := F) 𝒱₀ c none i arg1 harg1 arg2 harg2 arg3 harg3 arg4 harg4 arg5 harg5 arg6 harg6 arg7 harg7 arg8 harg8
                  v27 v31 v37 v38 f1 f2 G6 G8 k).2)) (Rect.unit (s := S256x1280) ![0, 0] S256x1280.size inb_S256x1280_S256x1280_0_0))
              (chunkDy (arg2.view.read (Elt F) f2) ⟨k, h⟩)⟩
          :: (pb_k0_t2 (F := F) 𝒱₀ c none i arg1 harg1 arg2 harg2 arg3 harg3 arg4 harg4 arg5 harg5 arg6 harg6 arg7 harg7 arg8 harg8
              v27 v31 v37 v38 f1 f2 G6 G8 k).2) := by
  refine (pb_k0_t2_succ (F := F) 𝒱₀ c none i arg1 harg1 arg2 harg2 arg3 harg3 arg4 harg4 arg5 harg5 arg6 harg6 arg7 harg7 arg8 harg8
    v27 v31 v37 v38 f1 f2 G6 G8 ⟨k, h⟩).trans ?_
  rw [trip_eq]
  rfl

theorem off2_eq : ∀ k : Fin k0_t2_loop.trips, k0_off2 k = ![1024 * k.val, 0] := by decide +kernel

/-- Before trip `n` the accumulator holds the product of the first `n` chunks, -/
theorem read_acc (h8 : arg8.view.read (Elt F) G8 = k0_pay10) (n : ℕ) (hn : n ≤ k0_t2_loop.trips) :
    arg8.view.read (Elt F) (arg8.view.writes (Elt F) G8
        (pb_k0_t2 (F := F) 𝒱₀ c none i arg1 harg1 arg2 harg2 arg3 harg3 arg4 harg4 arg5 harg5 arg6 harg6 arg7 harg7 arg8 harg8
          v27 v31 v37 v38 f1 f2 G6 G8 n).2)
      = accAt v27 (arg1.view.read (Elt F) f1) (arg2.view.read (Elt F) f2) n := by
  have hz : (![0, 0] : Fin 2 → Nat) = fun _ => 0 := funext fun a => by fin_cases a <;> rfl
  induction n with
  | zero => exact h8
  | succ k ih =>
    have h : k < k0_t2_loop.trips := hn
    rw [pb_succ arg1 harg1 arg2 harg2 arg3 harg3 arg4 harg4 arg5 harg5 arg6 harg6 arg7 harg7 arg8 harg8
      v27 v31 v37 v38 f1 f2 G6 G8 k h, ih (by omega)]
    dsimp only
    rw [accAt, dif_pos h]
    refine (View.read_writes_full arg8.view G8 _ _ _).trans ?_
    rw [View.ld_unit_zero (S := S256x1280) hz]

/-- and the rows of the first `n` chunks of the codes are written. -/
theorem read_codes (n : ℕ) (hn : n ≤ k0_t2_loop.trips) (y : S16384x256.Idx) (hy : (y 0).val < 1024 * n) :
    arg6.view.read (Elt F) (arg6.view.writes (Elt F) G6
        (pb_k0_t2 (F := F) 𝒱₀ c none i arg1 harg1 arg2 harg2 arg3 harg3 arg4 harg4 arg5 harg5 arg6 harg6 arg7 harg7 arg8 harg8
          v27 v31 v37 v38 f1 f2 G6 G8 n).1) y
      = codesE v27 (arg1.view.read (Elt F) f1) y := by
  induction n with
  | zero => exact absurd hy (by omega)
  | succ k ih =>
    have h : k < k0_t2_loop.trips := hn
    rw [pb_succ arg1 harg1 arg2 harg2 arg3 harg3 arg4 harg4 arg5 harg5 arg6 harg6 arg7 harg7 arg8 harg8
      v27 v31 v37 v38 f1 f2 G6 G8 k h]
    dsimp only
    by_cases hlt : (y 0).val < 1024 * k
    · refine (View.read_writes_cons_rows_of_not_mem arg6.view G6 _ _ _ y (off2_eq ⟨k, h⟩) rfl (Or.inl hlt)).trans ?_
      exact ih (by omega) hlt
    · have hk : chunkOf (y 0) = ⟨k, h⟩ := Fin.ext (show (y 0).val / 1024 = k by omega)
      have hmod : (y 0).val = 1024 * k + (y 0).val % 1024 := by omega
      refine (View.read_writes_cons_rows_of_mem arg6.view G6 _ _ _ y
        (fun a => match a with
          | ⟨0, _⟩ => (⟨(y 0).val % 1024, Nat.mod_lt _ (by decide)⟩ : Fin 1024)
          | ⟨1, _⟩ => y 1) (off2_eq ⟨k, h⟩) hmod rfl).trans ?_
      unfold codesE
      rw [hk]
      refine congrArg _ (funext fun a => ?_)
      match a with
      | ⟨0, _⟩ => rfl
      | ⟨1, _⟩ => rfl

/-- The first loop's last value, as the run names it. -/
abbrev carried : FVec F S16x256 .bf16 :=
  st_k0_t1 (F := F) 𝒱₀ c none i arg1 harg1 arg2 harg2 arg3 harg3 arg4 harg4 arg5 harg5 arg6 harg6 arg7 harg7 arg8 harg8 f1 k0_pay2 k0_t1_loop.trips

/-- The codes' buffer after the second loop. -/
theorem out_codes :
    arg6.view.read (Elt F) (arg6.view.writes (Elt F) G6
        (pb_k0_t2 (F := F) 𝒱₀ c none i arg1 harg1 arg2 harg2 arg3 harg3 arg4 harg4 arg5 harg5 arg6 harg6 arg7 harg7 arg8 harg8
          (k0_pay4 (carried (c := c) (i := i) arg1 harg1 arg2 harg2 arg3 harg3 arg4 harg4 arg5 harg5 arg6 harg6 arg7 harg7 arg8 harg8 f1)) (k0_pay6 (carried (c := c) (i := i) arg1 harg1 arg2 harg2 arg3 harg3 arg4 harg4 arg5 harg5 arg6 harg6 arg7 harg7 arg8 harg8 f1))
          (k0_pay7 (carried (c := c) (i := i) arg1 harg1 arg2 harg2 arg3 harg3 arg4 harg4 arg5 harg5 arg6 harg6 arg7 harg7 arg8 harg8 f1)) k0_pay8 f1 f2 G6 G8 k0_t2_loop.trips).1)
      = codes (arg1.view.read (Elt F) f1) := by
  have hS : carried (c := c) (i := i) arg1 harg1 arg2 harg2 arg3 harg3 arg4 harg4 arg5 harg5 arg6 harg6 arg7 harg7 arg8 harg8 f1 = amax (arg1.view.read (Elt F) f1) := st_eq arg1 harg1 arg2 harg2 arg3 harg3 arg4 harg4 arg5 harg5 arg6 harg6 arg7 harg7 arg8 harg8 f1 _
  rw [hS]
  funext y
  exact read_codes arg1 harg1 arg2 harg2 arg3 harg3 arg4 harg4 arg5 harg5 arg6 harg6 arg7 harg7 arg8 harg8 _ _ _ _ f1 f2 G6 _ k0_t2_loop.trips le_rfl y (by rw [trips2]; exact (y 0).isLt)

/-- The scales' buffer after the body's store. -/
theorem out_scale (G7 : BufTy.Contents (Elt F) arg7.view.ty) :
    arg7.view.read (Elt F) (arg7.view.writes (Elt F) G7
        [⟨Rect.unit (s := S1x256) ![0, 0] S1x256.size inb_S1x256_S1x256_0_0,
          k0_pay9 (k0_pay6 (carried (c := c) (i := i) arg1 harg1 arg2 harg2 arg3 harg3 arg4 harg4 arg5 harg5 arg6 harg6 arg7 harg7 arg8 harg8 f1)) (k0_pay7 (carried (c := c) (i := i) arg1 harg1 arg2 harg2 arg3 harg3 arg4 harg4 arg5 harg5 arg6 harg6 arg7 harg7 arg8 harg8 f1)) k0_pay8⟩])
      = scale (arg1.view.read (Elt F) f1) := by
  have hS : carried (c := c) (i := i) arg1 harg1 arg2 harg2 arg3 harg3 arg4 harg4 arg5 harg5 arg6 harg6 arg7 harg7 arg8 harg8 f1 = amax (arg1.view.read (Elt F) f1) := st_eq arg1 harg1 arg2 harg2 arg3 harg3 arg4 harg4 arg5 harg5 arg6 harg6 arg7 harg7 arg8 harg8 f1 _
  rw [hS]
  exact View.read_writes_full arg7.view G7 _ _ _

/-- The accumulator's buffer once the body has set it to zero. -/
abbrev zeroed : BufTy.Contents (Elt F) arg8.view.ty :=
  arg8.view.writes (Elt F) arg8.view.junk [⟨Rect.unit (s := S256x1280) ![0, 0] S256x1280.size inb_S256x1280_S256x1280_0_0, k0_pay10⟩]

/-- The first output's buffer after the body's store, from an accumulator that the body has set to zero. -/
theorem out_grad (f3 : BufTy.Contents (Elt F) arg3.view.ty) (f4 : BufTy.Contents (Elt F) arg4.view.ty)
    (G5 : BufTy.Contents (Elt F) arg5.view.ty) :
    arg5.view.read (Elt F) (arg5.view.writes (Elt F) G5
        [⟨Rect.unit (s := S256x1280) ![0, 0] S256x1280.size inb_S256x1280_S256x1280_0_0,
          k0_pay1 (arg4.view.readAt (Elt F) (Rect.unit (s := S256x1280) ![0, 0] S256x1280.size inb_S256x1280_S256x1280_0_0).toLoadRect f4)
            (k0_pay13 (k0_pay6 (carried (c := c) (i := i) arg1 harg1 arg2 harg2 arg3 harg3 arg4 harg4 arg5 harg5 arg6 harg6 arg7 harg7 arg8 harg8 f1)) (k0_pay7 (carried (c := c) (i := i) arg1 harg1 arg2 harg2 arg3 harg3 arg4 harg4 arg5 harg5 arg6 harg6 arg7 harg7 arg8 harg8 f1)) k0_pay8
              (arg3.view.readAt (Elt F) (Rect.unit (s := S1x1280) ![0, 0] S1x1280.size inb_S1x1280_S1x1280_0_0).toLoadRect f3)
              (arg8.view.readCov
                ((pb_k0_t2 (F := F) 𝒱₀ c none i arg1 harg1 arg2 harg2 arg3 harg3 arg4 harg4 arg5 harg5 arg6 harg6 arg7 harg7 arg8 harg8
                    (k0_pay4 (carried (c := c) (i := i) arg1 harg1 arg2 harg2 arg3 harg3 arg4 harg4 arg5 harg5 arg6 harg6 arg7 harg7 arg8 harg8 f1)) (k0_pay6 (carried (c := c) (i := i) arg1 harg1 arg2 harg2 arg3 harg3 arg4 harg4 arg5 harg5 arg6 harg6 arg7 harg7 arg8 harg8 f1))
                    (k0_pay7 (carried (c := c) (i := i) arg1 harg1 arg2 harg2 arg3 harg3 arg4 harg4 arg5 harg5 arg6 harg6 arg7 harg7 arg8 harg8 f1)) k0_pay8 f1 f2 G6 (zeroed arg8) k0_t2_loop.trips).2
                  ++ [⟨Rect.unit (s := S256x1280) ![0, 0] S256x1280.size inb_S256x1280_S256x1280_0_0, k0_pay10⟩])
                (Rect.unit (s := S256x1280) ![0, 0] S256x1280.size inb_S256x1280_S256x1280_0_0).toLoadRect))⟩])
      = grad (arg1.view.read (Elt F) f1) (arg2.view.read (Elt F) f2) (arg3.view.read (Elt F) f3) (arg4.view.read (Elt F) f4) := by
  have hS : carried (c := c) (i := i) arg1 harg1 arg2 harg2 arg3 harg3 arg4 harg4 arg5 harg5 arg6 harg6 arg7 harg7 arg8 harg8 f1 = amax (arg1.view.read (Elt F) f1) := st_eq arg1 harg1 arg2 harg2 arg3 harg3 arg4 harg4 arg5 harg5 arg6 harg6 arg7 harg7 arg8 harg8 f1 _
  rw [hS]
  refine (View.read_writes_full arg5.view G5 _ _ _).trans ?_
  unfold View.readCov
  rw [View.writes_append, View.readAt_full, View.readAt_full, View.readAt_full]
  refine congrArg (fun A => k0_pay1 (arg4.view.read (Elt F) f4) (k0_pay13 (k0_pay6 (amax (arg1.view.read (Elt F) f1)))
    (k0_pay7 (amax (arg1.view.read (Elt F) f1))) k0_pay8 (arg3.view.read (Elt F) f3) A)) ?_
  exact read_acc arg1 harg1 arg2 harg2 arg3 harg3 arg4 harg4 arg5 harg5 arg6 harg6 arg7 harg7 arg8 harg8 _ _ _ _ f1 f2 G6 (zeroed arg8) (View.read_writes_full arg8.view _ _ _ _) k0_t2_loop.trips le_rfl

end Loop2

/-- One grid point, exactly: from the four input blocks at contents `X1 … X4`, the output blocks and the scratch at
    any, the body leaves the inputs as found and the outputs at `grad`, `codes` and `scale`. -/
theorem sound_body (c : Dev nD) (E : Set ℕ) (i : grid0.Coords)
    (arg1 : Memref sig .tc .vmem S16384x256 .bf16) (harg1 : arg1.IsWhole)
    (arg2 : Memref sig .tc .vmem S16384x1280 .fp8e5m2) (harg2 : arg2.IsWhole)
    (arg3 : Memref sig .tc .vmem S1x1280 .f32) (harg3 : arg3.IsWhole)
    (arg4 : Memref sig .tc .vmem S256x1280 .f32) (harg4 : arg4.IsWhole)
    (arg5 : Memref sig .tc .vmem S256x1280 .f32) (harg5 : arg5.IsWhole)
    (arg6 : Memref sig .tc .vmem S16384x256 .fp8e4m3) (harg6 : arg6.IsWhole)
    (arg7 : Memref sig .tc .vmem S1x256 .f32) (harg7 : arg7.IsWhole)
    (arg8 : Memref sig .tc .vmem S256x1280 .f32) (harg8 : arg8.IsWhole)
    (X1 : S16384x256.Idx → Elt F .bf16) (X2 : S16384x1280.Idx → Elt F .fp8e5m2) (X3 : S1x1280.Idx → Elt F .f32)
    (X4 : S256x1280.Idx → Elt F .f32) (X5 : S256x1280.Idx → Elt F .f32) (X6 : S16384x256.Idx → Elt F .fp8e4m3)
    (X7 : S1x256.Idx → Elt F .f32) (X8 : S256x1280.Idx → Elt F .f32)
    (K : PUnit → sProp 𝕄) :
    iprop((owns (c : Thread nD τ) arg1 fullShare X1 ∗ owns (c : Thread nD τ) arg2 fullShare X2
            ∗ owns (c : Thread nD τ) arg3 fullShare X3 ∗ owns (c : Thread nD τ) arg4 fullShare X4
            ∗ owns (c : Thread nD τ) arg5 fullShare X5 ∗ owns (c : Thread nD τ) arg6 fullShare X6
            ∗ owns (c : Thread nD τ) arg7 fullShare X7 ∗ owns (c : Thread nD τ) arg8 fullShare X8)
          ∗ (iprop(owns (c : Thread nD τ) arg1 fullShare X1 ∗ owns (c : Thread nD τ) arg2 fullShare X2
            ∗ owns (c : Thread nD τ) arg3 fullShare X3 ∗ owns (c : Thread nD τ) arg4 fullShare X4
            ∗ owns (c : Thread nD τ) arg5 fullShare (grad X1 X2 X3 X4) ∗ owns (c : Thread nD τ) arg6 fullShare (codes X1)
            ∗ owns (c : Thread nD τ) arg7 fullShare (scale X1) ∗ (∃ X, owns (c : Thread nD τ) arg8 fullShare X)) -∗ K ⟨⟩))
      ⊢ wp frame (wpE (defs₀ (F := F)) 𝒱₀ c none) E
          (cc0__body i arg1 harg1 arg2 harg2 arg3 harg3 arg4 harg4 arg5 harg5 arg6 harg6 arg7 harg7 arg8 harg8) K := by
  have hz : (![0, 0] : Fin 2 → Nat) = fun _ => 0 := funext fun a => by fin_cases a <;> rfl
  simp only [cc0__body_eq_skeleton]; unfold cc0__body_skel
  simp only [k0_part1_eq_skeleton, k0_part2_eq_skeleton]
  unfold owns
  iintro ⟨⟨⟨%f1, %hf1, H1⟩, ⟨%f2, %hf2, H2⟩, ⟨%f3, %hf3, H3⟩, ⟨%f4, %hf4, H4⟩, ⟨%f5, -, H5⟩, ⟨%f6, -, H6⟩,
    ⟨%f7, -, H7⟩, ⟨%f8, -, H8⟩⟩, Hk⟩
  subst hf1 hf2 hf3 hf4
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr; swap; iexact H5
    ipureintro
    exact out_grad arg1 harg1 arg2 harg2 arg3 harg3 arg4 harg4 arg5 harg5 arg6 harg6 arg7 harg7 arg8 harg8 f1 f2 f6 f3 f4 f5
  isplitl [H6]
  · iexists _; isplitr; swap; iexact H6
    ipureintro
    exact out_codes arg1 harg1 arg2 harg2 arg3 harg3 arg4 harg4 arg5 harg5 arg6 harg6 arg7 harg7 arg8 harg8 f1 f2 f6 _
  isplitl [H7]
  · iexists _; isplitr; swap; iexact H7
    ipureintro
    exact out_scale arg1 harg1 arg2 harg2 arg3 harg3 arg4 harg4 arg5 harg5 arg6 harg6 arg7 harg7 arg8 harg8 f1 _
  iexists _; iexists _; isplitr; swap; iexact H8
  ipureintro; rfl

end Cert.Proof.Block

end
-- ==== Proof.Scale.lean ====
/-
The power-of-two scale of one column, as the kernel and as the reference compute it, over the extended reals.

Both start from `v`, the largest |x| of the column times 1/448 (as a float constant).

  The kernel counts the thresholds 0, 2^-126, 2^-125, …, 2^127, ∞ that lie above `v` (`count`), takes the exponent from
  the count as an integer (`expW`), and builds the power as the bits of a float (`powW`).
  The reference takes ⌊log v / log 2⌋ + 1 where `v` is a finite number from 2^-126 on, else 0 (`expR`), and raises 2
  to it, with 0 below the smallest and ∞ above the largest exponent (`powR`).

`scale_eq` and `inv_eq`: for every `v ≥ 0`, infinity included, the scale 2^e and the factor 2^-e are the same.
-/
module

public import Idealize.ShloMosaic.Lib.Pointwise.Tactic
public import Idealize.ShloMosaic.Lib.WordSum

@[expose] public section

set_option maxRecDepth 16384
set_option maxHeartbeats 1000000

noncomputable section

namespace Cert.Proof.Scale

open Idealize.ShloMosaic

/-! ## The two computations -/

/-- The threshold number `k`: the word `k` moved into the exponent field, read as a float. -/
def thr (k : Fin 256) : EReal := Ideal.ofBits .f32 (IntOp.shli .vector (BitVec.ofNat 32 k.val) 23#32)

/-- How many of the 256 thresholds are above `v`. -/
def count (v : EReal) : BitVec 32 := ∑ k : Fin 256, (Ideal.cmp .olt v (thr k)).setWidth 32

/-- The kernel's exponent, from the count. -/
def expW (n : BitVec 32) : BitVec 32 :=
  Scalar.select (IntOp.ori (IntOp.cmpi .eq (IntOp.subi 255#32 n) 0#32) (IntOp.cmpi .eq (IntOp.subi 255#32 n) 255#32)) 0#32
    (IntOp.subi (IntOp.subi 255#32 n) 126#32)

/-- The bits of 2^e as the kernel builds them. -/
def powW (e : BitVec 32) : BitVec 32 :=
  Scalar.select (IntOp.cmpi .sle (IntOp.addi e 127#32) 0#32) 0#32
    (Scalar.select (IntOp.cmpi .sge (IntOp.addi e 127#32) 255#32) 2139095040#32 (IntOp.shli .vector (IntOp.addi e 127#32) 23#32))

/-- The kernel's scale and the factor it quantises with. -/
def scaleK (v : EReal) : EReal := Ideal.ofBits .f32 (powW (expW (count v)))
def invK (v : EReal) : EReal := Ideal.ofBits .f32 (powW (IntOp.subi 0#32 (expW (count v))))

/-- The reference's exponent. -/
def expR (v : EReal) : EReal :=
  Scalar.select (IntOp.andi (Ideal.cmp .oge v (Ideal.ofBits .f32 8388608#32)) (Ideal.cmp .olt v (Ideal.ofBits .f32 2139095040#32)))
    (Ideal.liftRound Int.floor (Ideal.div (Ideal.log v) (Ideal.log (Ideal.ofBits .f32 1073741824#32))) + 1) 0

/-- The reference's power of two. -/
def powR (e : EReal) : EReal :=
  Scalar.select (Ideal.cmp .oge e (Ideal.ofBits .f32 1124073472#32)) (Ideal.ofBits .f32 2139095040#32)
    (Scalar.select (Ideal.cmp .ole e (Ideal.ofBits .f32 3271426048#32)) 0 (Ideal.exp2 e))

/-- The reference's scale and the factor it quantises with. -/
def scaleR (v : EReal) : EReal := powR (expR v)
def invR (v : EReal) : EReal := powR (0 - expR v)

/-! ## Words read as floats -/

theorem exp_field : ∀ k : Fin 256, ((BitVec.ofNat 32 k.val <<< 23).extractLsb' 23 8).toNat = k.val
    ∧ ((BitVec.ofNat 32 k.val <<< 23).extractLsb' 0 23).toNat = 0
    ∧ ((BitVec.ofNat 32 k.val <<< 23).extractLsb' 31 1 == 1#1) = false := by decide +kernel

theorem pow_field (k : ℕ) : (1 : ℝ) * ((2 ^ 23 + 0 : ℕ) : ℝ) * (2 : ℝ) ^ ((k : ℤ) - (2 ^ (8 - 1) - 1) - ((23 : ℕ) : ℤ)) = (2 : ℝ) ^ ((k : ℤ) - 127) := by
  rw [add_zero, Nat.cast_pow, Nat.cast_ofNat, one_mul, ← zpow_natCast (2 : ℝ) 23, ← zpow_add₀ (by norm_num : (2 : ℝ) ≠ 0)]
  congr 1
  norm_num

/-- A word with exponent field `k` and nothing else: 0, a power of two, or infinity. -/
theorem ofBits_field (k : Fin 256) : Ideal.ofBits .f32 (BitVec.ofNat 32 k.val <<< 23)
    = if k.val = 0 then 0 else if k.val = 255 then ⊤ else (((2 : ℝ) ^ ((k.val : ℤ) - 127) : ℝ) : EReal) := by
  obtain ⟨h1, h2, h3⟩ := exp_field k
  show Ideal.ieee 8 23 _ = _
  unfold Ideal.ieee
  simp only [h1, h2, h3, show (8 + 23 : ℕ) = 31 from rfl]
  rcases eq_or_ne k.val 255 with h | h
  · simp only [h]; norm_num
  rcases eq_or_ne k.val 0 with h' | h'
  · simp only [h']; norm_num
  · have h2 : ¬ k.val = 2 ^ 8 - 1 := by norm_num; exact h
    rw [if_neg h2, if_neg h', if_neg h', if_neg h, if_neg Bool.false_ne_true]
    refine congrArg (fun x : ℝ => (x : EReal)) ?_
    exact pow_field k.val

theorem shl (w : BitVec 32) : IntOp.shli .vector w 23#32 = w <<< 23 := rfl

theorem thr_eq (k : Fin 256) : thr k
    = if k.val = 0 then 0 else if k.val = 255 then ⊤ else (((2 : ℝ) ^ ((k.val : ℤ) - 127) : ℝ) : EReal) := by
  unfold thr; rw [shl]; exact ofBits_field k

/-- The thresholds grow. -/
theorem thr_mono {a b : Fin 256} (h : a ≤ b) : thr a ≤ thr b := by
  have h' : a.val ≤ b.val := h
  rw [thr_eq, thr_eq]
  split_ifs <;> try first | exact le_refl _ | exact le_top | omega
  · exact EReal.coe_nonneg.mpr (by positivity)
  · exact EReal.coe_le_coe_iff.mpr (zpow_le_zpow_right₀ (by norm_num) (by omega))

/-- Between which two thresholds `v` lies. -/
theorem exists_level (v : EReal) (hv : 0 ≤ v) : ∃ E : Fin 256, ∀ k, v < thr k ↔ E < k := by
  classical
  let S : Finset (Fin 256) := Finset.univ.filter fun k => thr k ≤ v
  have h0 : (0 : Fin 256) ∈ S := by
    simp only [S, Finset.mem_filter, Finset.mem_univ, true_and]
    rw [thr_eq]; simpa using hv
  refine ⟨S.max' ⟨0, h0⟩, fun k => ⟨fun h => ?_, fun h => ?_⟩⟩
  · by_contra hk
    have hm := S.max'_mem ⟨0, h0⟩
    simp only [S, Finset.mem_filter, Finset.mem_univ, true_and] at hm
    exact absurd ((thr_mono (not_lt.1 hk)).trans hm) (not_le.2 h)
  · by_contra hk
    have : k ∈ S := by simp only [S, Finset.mem_filter, Finset.mem_univ, true_and]; exact not_lt.1 hk
    exact absurd (S.le_max' k this) (not_le.2 h)

/-- The count at level `E`. -/
theorem count_eq (v : EReal) (E : Fin 256) (h : ∀ k, v < thr k ↔ E < k) : count v = 255#32 - BitVec.ofNat 32 E.val := by
  have hterm : ∀ k : Fin 256, (Ideal.cmp .olt v (thr k)).setWidth 32 = if E < k then 1#32 else 0#32 := by
    intro k
    unfold Ideal.cmp
    by_cases hk : E < k
    · simp [(h k).2 hk, hk]
    · simp [show ¬ v < thr k from fun hv => hk ((h k).1 hv), hk]
  have hs : (∑ k : Fin 256, (if E < k then 1#32 else 0#32).toNat) = 255 - E.val := by
    have : ∀ k : Fin 256, (if E < k then 1#32 else 0#32).toNat = if E < k then 1 else 0 := fun k => by split_ifs <;> rfl
    rw [Finset.sum_congr rfl fun k _ => this k, ← Finset.card_filter]
    have : (Finset.univ.filter fun k : Fin 256 => E < k) = Finset.Ioi E := by ext k; simp
    rw [this, Fin.card_Ioi]
  unfold count
  rw [Finset.sum_congr rfl fun k _ => hterm k]
  have hE := E.isLt
  apply BitVec.eq_of_toNat_eq
  rw [WordSum.toNat_sum _ _ (by rw [hs]; omega), hs]
  rw [BitVec.toNat_sub, BitVec.toNat_ofNat, BitVec.toNat_ofNat]
  omega

theorem level_scale : ∀ E : Fin 256, powW (expW (255#32 - BitVec.ofNat 32 E.val))
    = BitVec.ofNat 32 (if E.val = 0 ∨ E.val = 255 then 127 else E.val + 1) <<< 23 := by decide +kernel

theorem level_inv : ∀ E : Fin 256, powW (IntOp.subi 0#32 (expW (255#32 - BitVec.ofNat 32 E.val)))
    = BitVec.ofNat 32 (if E.val = 0 ∨ E.val = 255 then 127 else 253 - E.val) <<< 23 := by decide +kernel

/-! ## The constants -/

theorem c_min : Ideal.ofBits .f32 8388608#32 = (((2 : ℝ) ^ (-126 : ℤ) : ℝ) : EReal) := ofBits_field 1
theorem c_inf : Ideal.ofBits .f32 2139095040#32 = ⊤ := ofBits_field 255
theorem c_two : Ideal.ofBits .f32 1073741824#32 = ((2 : ℝ) : EReal) := by
  have := ofBits_field 128
  simpa using this
theorem one_word : Ideal.ofBits .f32 (BitVec.ofNat 32 127 <<< 23) = 1 := by
  refine (ofBits_field 127).trans ?_
  rw [if_neg (by decide), if_neg (by decide), show ((127 : Fin 256).val : ℤ) - 127 = 0 from rfl, zpow_zero, EReal.coe_one]
theorem c_128 : Ideal.ofBits .f32 1124073472#32 = ((128 : ℝ) : EReal) := by
  simp [Ideal.ofBits, Ideal.ieee, -EReal.coe_mul]; norm_num
theorem c_neg127 : Ideal.ofBits .f32 3271426048#32 = ((-127 : ℝ) : EReal) := by
  simp [Ideal.ofBits, Ideal.ieee, -EReal.coe_mul]; norm_num

/-! ## The reference's exponent at a level -/

theorem cmp_true {p : Prop} [Decidable p] (h : p) : BitVec.ofBool (decide p) = 1#1 := by simp [h]
theorem cmp_false {p : Prop} [Decidable p] (h : ¬ p) : BitVec.ofBool (decide p) = 0#1 := by simp [h]

theorem select_one {α : Type} (a b : α) : Scalar.select 1#1 a b = a := rfl
theorem select_zero {α : Type} (a b : α) : Scalar.select 0#1 a b = b := rfl

/-- Below the smallest normal number, and at infinity, the exponent is 0. -/
theorem expR_low {v : EReal} (h : v < (((2 : ℝ) ^ (-126 : ℤ) : ℝ) : EReal)) : expR v = 0 := by
  unfold expR
  have : Ideal.cmp .oge v (Ideal.ofBits .f32 8388608#32) = 0#1 := by rw [c_min]; exact cmp_false (not_le.2 h)
  rw [this]
  show Scalar.select (0#1 &&& _) _ _ = _
  rw [BitVec.zero_and]; rfl

theorem expR_top : expR ⊤ = 0 := by
  unfold expR
  have : Ideal.cmp .olt (⊤ : EReal) (Ideal.ofBits .f32 2139095040#32) = 0#1 := by
    rw [c_inf]; exact cmp_false (lt_irrefl _)
  rw [this]
  show Scalar.select (_ &&& 0#1) _ _ = _
  rw [BitVec.and_zero]; rfl

/-- In between it is ⌊log v / log 2⌋ + 1. -/
theorem expR_mid (r : ℝ) (h : (2 : ℝ) ^ (-126 : ℤ) ≤ r) : expR (r : EReal) = (((⌊Real.log r / Real.log 2⌋ : ℤ) : ℝ) + 1 : ℝ) := by
  have hr : 0 < r := lt_of_lt_of_le (by positivity) h
  have hl : Real.log 2 ≠ 0 := (Real.log_pos (by norm_num)).ne'
  unfold expR
  have h1 : Ideal.cmp .oge (r : EReal) (Ideal.ofBits .f32 8388608#32) = 1#1 := by
    rw [c_min]; exact cmp_true (EReal.coe_le_coe_iff.mpr h)
  have h2 : Ideal.cmp .olt (r : EReal) (Ideal.ofBits .f32 2139095040#32) = 1#1 := by
    rw [c_inf]; exact cmp_true (EReal.coe_lt_top r)
  rw [h1, h2]
  show Scalar.select 1#1 _ _ = _
  rw [select_one, c_two, Ideal.log_coe, Ideal.log_coe, if_neg (not_le.2 hr), if_neg (by norm_num)]
  unfold Ideal.div
  rw [if_neg (by simpa using hl), ← EReal.coe_inv, ← EReal.coe_mul, ← div_eq_mul_inv]
  show (((⌊Real.log r / Real.log 2⌋ : ℤ) : ℝ) : EReal) + ((1 : ℝ) : EReal) = _
  rw [← EReal.coe_add]

/-- The floor of the logarithm to base 2, between two powers. -/
theorem floor_log {r : ℝ} {n : ℤ} (h1 : (2 : ℝ) ^ n ≤ r) (h2 : r < (2 : ℝ) ^ (n + 1)) : ⌊Real.log r / Real.log 2⌋ = n := by
  have hr : 0 < r := lt_of_lt_of_le (by positivity) h1
  have hl : 0 < Real.log 2 := Real.log_pos (by norm_num)
  rw [Int.floor_eq_iff, le_div_iff₀ hl, div_lt_iff₀ hl]
  constructor
  · rw [← Real.log_zpow]; exact Real.log_le_log (by positivity) h1
  · have : (n : ℝ) + 1 = ((n + 1 : ℤ) : ℝ) := by push_cast; ring
    rw [this, ← Real.log_zpow]; exact Real.log_lt_log hr h2

theorem le_floor_log {r : ℝ} {n : ℤ} (h1 : (2 : ℝ) ^ n ≤ r) : n ≤ ⌊Real.log r / Real.log 2⌋ := by
  have hl : 0 < Real.log 2 := Real.log_pos (by norm_num)
  rw [Int.le_floor, le_div_iff₀ hl, ← Real.log_zpow]
  exact Real.log_le_log (by positivity) h1

theorem powR_real (e : ℝ) : powR (e : EReal) = if 128 ≤ e then ⊤ else if e ≤ -127 then 0 else ((Real.rpow 2 e : ℝ) : EReal) := by
  unfold powR
  rw [c_128, c_neg127, c_inf, Ideal.exp2_coe]
  have h1 : Ideal.cmp .oge (e : EReal) ((128 : ℝ) : EReal) = if 128 ≤ e then 1#1 else 0#1 := by
    split_ifs with h
    · exact cmp_true (EReal.coe_le_coe_iff.mpr h)
    · exact cmp_false (by rwa [EReal.coe_le_coe_iff])
  have h2 : Ideal.cmp .ole (e : EReal) ((-127 : ℝ) : EReal) = if e ≤ -127 then 1#1 else 0#1 := by
    split_ifs with h
    · exact cmp_true (EReal.coe_le_coe_iff.mpr h)
    · exact cmp_false (by rwa [EReal.coe_le_coe_iff])
  rw [h1, h2]
  split_ifs <;> rfl

theorem powR_int (n : ℤ) (h1 : -127 < n) (h2 : n < 128) : powR (((n : ℤ) : ℝ) : EReal) = (((2 : ℝ) ^ n : ℝ) : EReal) := by
  rw [powR_real, if_neg (by norm_cast; omega), if_neg (by rw [not_le]; exact_mod_cast h1)]
  congr 1
  exact Real.rpow_intCast 2 n

/-! ## The two agree -/

/-- Where `v` lies and what both sides give there. -/
theorem both_eq (v : EReal) (hv : 0 ≤ v) : scaleK v = scaleR v ∧ invK v = invR v := by
  obtain ⟨E, hE⟩ := exists_level v hv
  have hlt := E.isLt
  unfold scaleK invK scaleR invR
  rw [count_eq v E hE, level_scale, level_inv]
  have hle : thr E ≤ v := not_lt.1 fun h => lt_irrefl _ ((hE E).1 h)
  rcases eq_or_ne E.val 255 with h255 | h255
  · -- infinity
    have : v = ⊤ := by rw [thr_eq, if_neg (by omega), if_pos h255] at hle; exact top_le_iff.1 hle
    subst this
    rw [expR_top, if_pos (Or.inr h255), if_pos (Or.inr h255), sub_zero]
    have h0 := powR_int 0 (by norm_num) (by norm_num)
    have hb : Ideal.ofBits .f32 (BitVec.ofNat 32 127 <<< 23) = 1 := one_word
    simp only [Int.cast_zero, EReal.coe_zero, zpow_zero] at h0
    rw [h0]
    exact ⟨hb, hb⟩
  rcases eq_or_ne E.val 0 with h0 | h0
  · -- below the smallest normal number
    have hv1 : v < (((2 : ℝ) ^ (-126 : ℤ) : ℝ) : EReal) := by
      have := (hE 1).2 (by rw [Fin.lt_def]; rw [h0]; decide)
      rw [thr_eq] at this
      simpa using this
    rw [expR_low hv1, if_pos (Or.inl h0), if_pos (Or.inl h0), sub_zero]
    have h0 := powR_int 0 (by norm_num) (by norm_num)
    have hb : Ideal.ofBits .f32 (BitVec.ofNat 32 127 <<< 23) = 1 := one_word
    simp only [Int.cast_zero, EReal.coe_zero, zpow_zero] at h0
    rw [h0]
    exact ⟨hb, hb⟩
  have hn : ¬ (E.val = 0 ∨ E.val = 255) := by tauto
  rw [if_neg hn, if_neg hn]
  have hvt : v < ⊤ := by
    have := (hE 255).2 (by rw [Fin.lt_def]; show E.val < 255; omega)
    rw [thr_eq] at this
    simpa using this
  have hvb : v ≠ ⊥ := by rintro rfl; exact absurd hv (by simp)
  obtain ⟨r, rfl⟩ : ∃ r : ℝ, v = r := ⟨v.toReal, (EReal.coe_toReal hvt.ne hvb).symm⟩
  rw [thr_eq, if_neg h0, if_neg h255, EReal.coe_le_coe_iff] at hle
  have hmin : (2 : ℝ) ^ (-126 : ℤ) ≤ r := le_trans (zpow_le_zpow_right₀ (by norm_num) (by omega)) hle
  rw [expR_mid r hmin]
  rcases eq_or_ne E.val 254 with h254 | h254
  · -- from 2^127 on
    have hfl : (127 : ℤ) ≤ ⌊Real.log r / Real.log 2⌋ := le_floor_log (le_trans (by rw [h254]; norm_num) hle)
    have hfl' : (127 : ℝ) ≤ ((⌊Real.log r / Real.log 2⌋ : ℤ) : ℝ) := by exact_mod_cast hfl
    have hs := ofBits_field 255
    have hi := ofBits_field 0
    constructor
    · rw [powR_real, if_pos (by linarith), h254]; simpa using hs
    · rw [zero_sub, ← EReal.coe_neg, powR_real, if_neg (by linarith), if_pos (by linarith), h254]; simpa using hi
  · have hup : r < (2 : ℝ) ^ ((E.val : ℤ) - 127 + 1) := by
      have := (hE ⟨E.val + 1, by omega⟩).2 (by rw [Fin.lt_def]; show E.val < E.val + 1; omega)
      rw [thr_eq, if_neg (by show ¬ E.val + 1 = 0; omega), if_neg (by show ¬ E.val + 1 = 255; omega), EReal.coe_lt_coe_iff] at this
      refine lt_of_lt_of_eq this ?_
      congr 1
      show ((E.val + 1 : ℕ) : ℤ) - 127 = _
      push_cast; ring
    rw [floor_log hle hup]
    have e1 : ((((E.val : ℤ) - 127 : ℤ) : ℝ) + 1 : ℝ) = (((E.val : ℤ) - 126 : ℤ) : ℝ) := by push_cast; ring
    rw [e1]
    constructor
    · rw [powR_int _ (by omega) (by omega)]
      have := ofBits_field ⟨E.val + 1, by omega⟩
      rw [if_neg (by show ¬ E.val + 1 = 0; omega), if_neg (by show ¬ E.val + 1 = 255; omega)] at this
      refine this.trans ?_
      congr 2
      show ((E.val + 1 : ℕ) : ℤ) - 127 = _
      push_cast; ring
    · have e2 : (0 : EReal) - ((((E.val : ℤ) - 126 : ℤ) : ℝ) : EReal) = (((126 - (E.val : ℤ) : ℤ) : ℝ) : EReal) := by
        rw [zero_sub, ← EReal.coe_neg]; congr 1; push_cast; ring
      rw [e2]
      have := ofBits_field ⟨253 - E.val, by omega⟩
      refine this.trans ?_
      rcases eq_or_ne E.val 253 with h253 | h253
      · rw [if_pos (by show 253 - E.val = 0; omega), powR_real, if_neg (by rw [h253]; norm_num), if_pos (by rw [h253]; norm_num)]
      · rw [if_neg (by show ¬ 253 - E.val = 0; omega), if_neg (by show ¬ 253 - E.val = 255; omega), powR_int _ (by omega) (by omega)]
        congr 2
        show ((253 - E.val : ℕ) : ℤ) - 127 = _
        omega

/-- The scales agree. -/
theorem scale_eq (v : EReal) (hv : 0 ≤ v) : scaleK v = scaleR v := (both_eq v hv).1

/-- The factors agree. -/
theorem inv_eq (v : EReal) (hv : 0 ≤ v) : invK v = invR v := (both_eq v hv).2

end Cert.Proof.Scale
-- ==== Proof.BlockValue.lean ====
/-
One grid point of the kernel over the extended reals, column by column.

Column `j` of a block of `x` is a function `f` of 16384 rows. With `level f` its largest |x| times 1/448, the kernel
writes `scaleK (level f)` as the column's scale, `quant (f r) (invK (level f))` as the code of row `r`, and as row `j`
of the gradient the master gradient plus the product of the codes with `dy` times the scales. No other column enters.
-/
module

public import proofs.«01_k».proof.Proof.BlockRun
public import proofs.«01_k».proof.Proof.Scale
public import Idealize.ShloMosaic.Lib.Pointwise.Tactic
public import Idealize.ShloMosaic.Lib.Pointwise.Contract
public import Idealize.ShloMosaic.Lib.Pointwise.Reshape
public import Idealize.ShloMosaic.PureOps.Ideal.Laws

@[expose] public section

set_option maxRecDepth 16384
set_option maxHeartbeats 1000000

noncomputable section

namespace Cert.Proof

open Idealize.ShloMosaic

/-! ## One column -/

/-- |x|. -/
def absE (x : EReal) : EReal := max x (-x)

theorem absE_nonneg (x : EReal) : 0 ≤ absE x := by
  unfold absE
  rcases le_total 0 x with h | h
  · exact le_max_of_le_left h
  · exact le_max_of_le_right (by simpa using EReal.neg_le_neg_iff.mpr h)

/-- The largest |x| of a column. -/
def colSup (f : Fin 16384 → EReal) : EReal := Finset.univ.sup fun r => absE (f r)

theorem colSup_le_iff (f : Fin 16384 → EReal) (z : EReal) : colSup f ≤ z ↔ ∀ r, absE (f r) ≤ z := by
  simp [colSup, Finset.sup_le_iff]

theorem colSup_nonneg (f : Fin 16384 → EReal) : 0 ≤ colSup f :=
  (absE_nonneg (f 0)).trans ((colSup_le_iff f _).1 le_rfl 0)

/-- The largest |x| of a column times the constant 1/448 (as a float). -/
def level (f : Fin 16384 → EReal) : EReal := colSup f * Ideal.ofBits .f32 991054117#32

theorem level_nonneg (f : Fin 16384 → EReal) : 0 ≤ level f := by
  refine mul_nonneg (colSup_nonneg f) ?_
  simp [Ideal.ofBits, Ideal.ieee, -EReal.coe_mul]

/-- One code: the value times the factor, clipped to ±448. -/
def quant (x inv : EReal) : EReal :=
  min (Ideal.ofBits .f32 1138753536#32) (max (Ideal.ofBits .f32 3286237184#32) (x * inv))

namespace Block

open Cert.KernelIdeal Cert.KernelIdeal.Gen
open Cert.Proof.Scale

/-- Column `j` of a block. -/
abbrev col (X : S16384x256.Idx → EReal) (j : Fin 256) : Fin 16384 → EReal := fun r => X (ix2 r j)

/-! ## The maximum -/

theorem neg_inf_bf16 : Ideal.ofBits .bf16 0xFF80#16 = ⊥ := by simp [Ideal.ofBits, Ideal.ieee]
theorem neg_inf_f32 : Ideal.ofBits .f32 0xFF800000#32 = ⊥ := by simp [Ideal.ofBits, Ideal.ieee]

theorem trips1 : k0_t1_loop.trips = 16 := by decide

theorem chunk1_apply (X : S16384x256.Idx → EReal) (k : Fin k0_t1_loop.trips) (r : Fin 1024) (j : Fin 256) :
    chunk1 (F := Ideal) X k (ix2 r j)
      = X (ix2 ⟨1024 * k.val + r.val, by have := lt_of_lt_of_eq k.isLt trips1; omega⟩ j) := by
  unfold chunk1 View.ld
  refine congrArg X (funext fun a => Fin.ext ?_)
  have h0 : k0_off1 k 0 = 1024 * k.val := by rw [k0_off1_eq k]; rfl
  have h1 : k0_off1 k 1 = 0 := by rw [k0_off1_eq k]; rfl
  match a with
  | ⟨0, _⟩ => exact (congrArg₂ (· + ·) h0 (Nat.one_mul _))
  | ⟨1, _⟩ => exact (congrArg₂ (· + ·) h1 (Nat.one_mul _)).trans (Nat.zero_add _)

theorem chunk2_apply (X : S16384x256.Idx → EReal) (k : Fin k0_t2_loop.trips) (r : Fin 1024) (j : Fin 256) :
    chunk2 (F := Ideal) X k (ix2 r j)
      = X (ix2 ⟨1024 * k.val + r.val, by have := lt_of_lt_of_eq k.isLt trips2; omega⟩ j) := by
  unfold chunk2 View.ld
  refine congrArg X (funext fun a => Fin.ext ?_)
  have h0 : k0_off2 k 0 = 1024 * k.val := by rw [k0_off2_eq k]; rfl
  have h1 : k0_off2 k 1 = 0 := by rw [k0_off2_eq k]; rfl
  match a with
  | ⟨0, _⟩ => exact (congrArg₂ (· + ·) h0 (Nat.one_mul _))
  | ⟨1, _⟩ => exact (congrArg₂ (· + ·) h1 (Nat.one_mul _)).trans (Nat.zero_add _)

theorem chunkDy_apply (X : S16384x1280.Idx → EReal) (k : Fin k0_t2_loop.trips) (r : Fin 1024) (n : Fin 1280) :
    chunkDy (F := Ideal) X k (ix2 r n)
      = X (ix2 ⟨1024 * k.val + r.val, by have := lt_of_lt_of_eq k.isLt trips2; omega⟩ n) := by
  unfold chunkDy View.ld
  refine congrArg X (funext fun a => Fin.ext ?_)
  have h0 : k0_off3 k 0 = 1024 * k.val := by rw [k0_off3_eq k]; rfl
  have h1 : k0_off3 k 1 = 0 := by rw [k0_off3_eq k]; rfl
  match a with
  | ⟨0, _⟩ => exact (congrArg₂ (· + ·) h0 (Nat.one_mul _))
  | ⟨1, _⟩ => exact (congrArg₂ (· + ·) h1 (Nat.one_mul _)).trans (Nat.zero_add _)

/-- Which values bound a maximum over the first axis. -/
theorem reduce_le_iff {φ : FTy} {s t : Shape} {a : Fin s.rank} (src : FVec Ideal s φ) (b : BitVec φ.bits) (hb : Ideal.ofBits φ b = ⊥)
    (h : s.Reduces [a] t) (hφ : FKind.Formats φ) (hacc : b = FKind.maximumf.neutral φ hφ) (j : t.Idx) (z : EReal) :
    multiReduction (F := Ideal) .maximumf [a] t src b h hφ hacc j ≤ z ↔ ∀ k : Fin (s.size a), src (h.lift j k) ≤ z := by
  rw [Ideal.multiReduction_maximumf_single, Finset.fold_max_le, Ideal.ofBits_def, hb]
  simp only [bot_le, true_and, Finset.mem_univ, true_implies, Function.comp]

/-- The sixteen partial maxima of one chunk: row `p` of them over rows `p, p + 16, p + 32, …`. -/
theorem pay3_le_iff (A : FVec Ideal S16x256 .bf16) (V : FVec Ideal S1024x256 .bf16) (p : Fin 16) (j : Fin 256) (z : EReal) :
    k0_pay3 (F := Ideal) A V (ix2 p j) ≤ z
      ↔ A (ix2 p j) ≤ z ∧ ∀ q : Fin 64, absE (V (ix2 ⟨16 * q.val + p.val, by omega⟩ j)) ≤ z := by
  unfold k0_pay3
  show max (A (ix2 p j)) (multiReduction (F := Ideal) .maximumf [0] S16x256 _ _ _ _ _ (ix2 p j)) ≤ z ↔ _
  rw [max_le_iff]
  refine and_congr_right fun _ => (reduce_le_iff _ _ neg_inf_bf16 _ _ _ _ z).trans (forall_congr' fun q => ?_)
  rw [shapeCast_apply (k := ix2 (⟨16 * q.val + p.val, by have := q.isLt; change q.val < 64 at this; omega⟩ : Fin 1024) j)]
  · rw [shapeCast_id]; rfl
  · rw [rowMajor_val2 _ 256 rfl, rowMajor_val3 _ 4096 256 rfl rfl]
    show (16 * q.val + p.val) * 256 + j.val = q.val * 4096 + p.val * 256 + j.val
    ring

/-- The running maxima after `n` chunks. -/
theorem amaxAt_le_iff (X : S16384x256.Idx → EReal) (n : ℕ) (hn : n ≤ 16) (p : Fin 16) (j : Fin 256) (z : EReal) :
    amaxAt (F := Ideal) X n (ix2 p j) ≤ z
      ↔ 0 ≤ z ∧ ∀ r : Fin 16384, r.val < 1024 * n → r.val % 16 = p.val → absE (X (ix2 r j)) ≤ z := by
  induction n with
  | zero =>
    show Ideal.ofBits .bf16 0x0000#16 ≤ z ↔ _
    rw [Ideal.ofBits_zero_bf16]
    simp
  | succ k ih =>
    have hk : k < k0_t1_loop.trips := by rw [trips1]; omega
    rw [amaxAt, dif_pos hk, pay3_le_iff, ih (by omega), and_assoc]
    refine and_congr_right fun _ => ⟨fun ⟨h1, h2⟩ r hr hp => ?_, fun h => ⟨fun r hr hp => h r (by omega) hp, fun q => ?_⟩⟩
    · by_cases hlt : r.val < 1024 * k
      · exact h1 r hlt hp
      · have := h2 ⟨(r.val - 1024 * k) / 16, by omega⟩
        rw [chunk1_apply] at this
        have e : (⟨1024 * k + (16 * ((r.val - 1024 * k) / 16) + p.val), by omega⟩ : Fin 16384) = r := Fin.ext (by
          show 1024 * k + (16 * ((r.val - 1024 * k) / 16) + p.val) = r.val; omega)
        simpa only [e] using this
    · rw [chunk1_apply]
      exact h _ (by show 1024 * k + (16 * q.val + p.val) < _; omega) (by show (1024 * k + (16 * q.val + p.val)) % 16 = _; omega)

/-- The largest of the sixteen partial maxima is the largest |x| of the column. -/
theorem colmax_eq (X : S16384x256.Idx → EReal) (j : Fin 256) (h hφ hacc) :
    multiReduction (F := Ideal) .maximumf [0] S256 (extf (F := Ideal) .f32 (amax (F := Ideal) X) bitsLt_bf16_f32) 0xFF800000#32 h hφ hacc (ix1 j)
      = colSup (col X j) := by
  refine eq_of_forall_ge_iff fun z => ?_
  rw [reduce_le_iff _ _ neg_inf_f32, colSup_le_iff]
  have key : ∀ p : Fin 16, (extf (F := Ideal) .f32 (amax (F := Ideal) X) bitsLt_bf16_f32) (h.lift (ix1 j) p) ≤ z
      ↔ 0 ≤ z ∧ ∀ r : Fin 16384, r.val < 1024 * 16 → r.val % 16 = p.val → absE (X (ix2 r j)) ≤ z := fun p => by
    have hl : h.lift (ix1 j) p = ix2 (n0 := 16) (n1 := 256) p j := by
      funext a; match a with | ⟨0, _⟩ => rfl | ⟨1, _⟩ => rfl
    rw [hl]
    show amaxAt (F := Ideal) X k0_t1_loop.trips (ix2 p j) ≤ z ↔ _
    rw [trips1]
    exact amaxAt_le_iff X 16 le_rfl p j z
  refine ⟨fun hz r => ?_, fun hz p => (key p).2 ⟨(absE_nonneg _).trans (hz 0), fun r _ _ => hz r⟩⟩
  exact ((key ⟨r.val % 16, Nat.mod_lt _ (by decide)⟩).1 (hz _)).2 r r.isLt rfl

/-! ## The exponent and the scale -/

/-- The kernel's exponents from the columns' maxima. -/
def expoOf (m : FVec Ideal S256 .f32) : IVec S1x256 32 :=
  have v5 : FVec Ideal S1x256 .f32 := shapeCast S1x256 m shapeCasts_S256_S1x256
  have v7 : FVec Ideal S1x256 .f32 := mulf v5 (broadcast S1x256 (Scalar.ofBits .f32 0x3B124925#32))
  have v11 : FVec Ideal S256x256 .f32 := bitcastToFloat .f32 (shli (iota .tc S256x256 32 [0] iota_S256x256_d0_w32) (broadcast S256x256 23#32))
  have v14 : IVec S256x256 32 := extui 32 (cmpf .olt (broadcastTo S256x256 v7 broadcasts_S1x256_S256x256) v11) natLt_1_32
  have v16 : IVec S1x256 32 := shapeCast S1x256 (multiReductionI .add [0] S256 v14 0#32 reduces_S256x256_S256 rfl) shapeCasts_S256_S1x256
  have v18 : IVec S1x256 32 := subi (broadcast S1x256 255#32) v16
  select (ori (cmpi .eq v18 (broadcast S1x256 0#32)) (cmpi .eq v18 (broadcast S1x256 255#32))) (broadcast S1x256 0#32)
    (subi v18 (broadcast S1x256 126#32))

theorem addUnit_apply {α : Type} (m : S256.Idx → α) (h : S256.ShapeCasts S1x256) (j : Fin 256) : shapeCast S1x256 m h (ix2 0 j) = m (ix1 j) := by
  refine (shapeCast_addUnit_apply ![256] m h (ix2 0 j)).trans (congrArg m (funext fun a => ?_))
  match a with | ⟨0, _⟩ => rfl

theorem expoOf_apply (m : FVec Ideal S256 .f32) (j : Fin 256) :
    expoOf m (ix2 0 j) = expW (count (m (ix1 j) * Ideal.ofBits .f32 991054117#32)) := by
  have hc : ∀ (w : IVec S256x256 32) (h : S256x256.Reduces [0] S256) (ha : 0#32 = IKind.add.neutral), (∀ k, w (ix2 k j)
        = (Ideal.cmp .olt (m (ix1 j) * Ideal.ofBits .f32 991054117#32) (thr k)).setWidth 32) →
      multiReductionI .add [0] S256 w 0#32 h ha (ix1 j) = count (m (ix1 j) * Ideal.ofBits .f32 991054117#32) := fun w h ha hw => by
    rw [multiReductionI_eq_reduceFold]
    show reduceFold h (· + ·) (0#32 : BitVec 32) w (ix1 j) = _
    rw [reduceFold_add_eq_sum, show (0#32 : BitVec 32) = 0 from rfl, zero_add, h.sum_filter_drop_single]
    refine Finset.sum_congr rfl fun k _ => ?_
    refine Eq.trans (congrArg w ?_) (hw k)
    funext a; match a with | ⟨0, _⟩ => rfl | ⟨1, _⟩ => rfl
  unfold expoOf
  refine congrArg expW ?_
  refine (addUnit_apply _ _ j).trans (hc _ _ _ fun k => ?_)
  show (Ideal.cmp .olt (broadcastTo S256x256 _ broadcasts_S1x256_S256x256 (ix2 k j)) _).setWidth 32 = _
  rw [broadcastTo_apply (k := ix2 0 j) _ _ _ (fun a => by match a with | ⟨0, _⟩ => rfl | ⟨1, _⟩ => rfl)]
  refine congrArg₂ (fun a b => (Ideal.cmp .olt a b).setWidth 32) ?_ ?_
  · exact congrArg (· * Ideal.ofBits .f32 991054117#32) (addUnit_apply m _ j)
  · refine congrArg (fun w => Ideal.ofBits .f32 (IntOp.shli .vector w 23#32)) ?_
    simp [iota, ix2]

theorem expo_apply (X : S16384x256.Idx → EReal) (j : Fin 256) :
    expo (F := Ideal) X (ix2 0 j) = expW (count (level (col X j))) := by
  have : expo (F := Ideal) X = expoOf (multiReduction (F := Ideal) .maximumf [0] S256
      (extf (F := Ideal) .f32 (amax (F := Ideal) X) bitsLt_bf16_f32) 0xFF800000#32 reduces_S16x256_S256 (.inl rfl) rfl) := rfl
  rw [this, expoOf_apply]
  exact congrArg (fun m => expW (count (m * Ideal.ofBits .f32 991054117#32))) (colmax_eq X j _ _ _)

theorem scale_apply (X : S16384x256.Idx → EReal) (j : Fin 256) :
    scale (F := Ideal) X (ix2 0 j) = scaleK (level (col X j)) := by
  show Ideal.ofBits .f32 (powW (expo (F := Ideal) X (ix2 0 j))) = _
  rw [expo_apply]
  rfl

/-! ## The codes -/

theorem pay11_apply (e : IVec S1x256 32) (V : FVec Ideal S1024x256 .bf16) (r : Fin 1024) (j : Fin 256) :
    k0_pay11 (F := Ideal) e V (ix2 r j) = quant (V (ix2 r j)) (Ideal.ofBits .f32 (powW (IntOp.subi 0#32 (e (ix2 0 j))))) := by
  unfold k0_pay11
  pointwise
  rfl

theorem codesE_apply (e : IVec S1x256 32) (X : S16384x256.Idx → EReal) (r : Fin 16384) (j : Fin 256) :
    codesE (F := Ideal) e X (ix2 r j) = quant (X (ix2 r j)) (Ideal.ofBits .f32 (powW (IntOp.subi 0#32 (e (ix2 0 j))))) := by
  unfold codesE
  have hi : (fun a => match a with
      | ⟨0, _⟩ => (⟨((ix2 r j : S16384x256.Idx) 0).val % 1024, Nat.mod_lt _ (by decide)⟩ : Fin 1024)
      | ⟨1, _⟩ => (ix2 r j : S16384x256.Idx) 1 : S1024x256.Idx) = ix2 (n0 := 1024) (n1 := 256) ⟨r.val % 1024, Nat.mod_lt _ (by decide)⟩ j := by
    funext a; match a with | ⟨0, _⟩ => rfl | ⟨1, _⟩ => rfl
  refine (congrArg _ hi).trans ?_
  rw [pay11_apply, chunk2_apply]
  have e1 : (⟨1024 * (chunkOf ((ix2 r j : S16384x256.Idx) 0)).val + r.val % 1024, by
      show 1024 * (r.val / 1024) + r.val % 1024 < 16384; omega⟩ : Fin 16384) = r :=
    Fin.ext (by show 1024 * (r.val / 1024) + r.val % 1024 = r.val; omega)
  simp only [e1]

theorem codes_apply (X : S16384x256.Idx → EReal) (r : Fin 16384) (j : Fin 256) :
    codes (F := Ideal) X (ix2 r j) = quant (X (ix2 r j)) (invK (level (col X j))) := by
  unfold codes
  rw [codesE_apply, expo_apply]
  rfl

/-! ## The product and the gradient -/

/-- Entry (j, n) of the product over the first `m` rows, a row's term given by `g`. -/
theorem accAt_apply (e : IVec S1x256 32) (X1 : S16384x256.Idx → EReal) (X2 : S16384x1280.Idx → EReal) (j : Fin 256) (n : Fin 1280)
    (g : ℕ → EReal) (hg : ∀ r : Fin 16384, g r.val = codesE (F := Ideal) e X1 (ix2 r j) * X2 (ix2 r n)) (k : ℕ) (hk : k ≤ 16) :
    accAt (F := Ideal) e X1 X2 k (ix2 j n) = ∑ r ∈ Finset.range (1024 * k), g r := by
  induction k with
  | zero =>
    show Ideal.ofBits .f32 0x00000000#32 = _
    rw [Ideal.ofBits_zero_f32]; simp
  | succ k ih =>
    have h : k < k0_t2_loop.trips := by rw [trips2]; omega
    rw [accAt, dif_pos h, Nat.mul_succ, Finset.sum_range_add, ← ih (by omega)]
    unfold k0_pay12
    rw [shapeCast_id]
    show accAt (F := Ideal) e X1 X2 k (ix2 j n) + Ideal.matmul _ _ _ _ (ix2 j n) = _
    refine congrArg (accAt (F := Ideal) e X1 X2 k (ix2 j n) + ·) ?_
    rw [shapeCast_id]
    simp only [pointwise]
    rw [zero_add, Finset.sum_range]
    refine Finset.sum_congr rfl fun r _ => ?_
    rw [hg ⟨1024 * k + r.val, by omega⟩, pay11_apply, chunk2_apply, chunkDy_apply, codesE_apply]

theorem acc_apply (X1 : S16384x256.Idx → EReal) (X2 : S16384x1280.Idx → EReal) (j : Fin 256) (n : Fin 1280) :
    acc (F := Ideal) X1 X2 (ix2 j n) = ∑ r : Fin 16384, quant (X1 (ix2 r j)) (invK (level (col X1 j))) * X2 (ix2 r n) := by
  unfold acc
  rw [trips2, accAt_apply (expo (F := Ideal) X1) X1 X2 j n
    (fun r => if h : r < 16384 then codesE (F := Ideal) (expo (F := Ideal) X1) X1 (ix2 ⟨r, h⟩ j) * X2 (ix2 ⟨r, h⟩ n) else 0)
    (fun r => dif_pos r.isLt) 16 le_rfl, show 1024 * 16 = 16384 from rfl, Finset.sum_range]
  refine Finset.sum_congr rfl fun r _ => ?_
  rw [dif_pos r.isLt]
  exact congrArg (· * X2 (ix2 r n)) (codes_apply X1 r j)

theorem pay13_apply (v31 : IVec S1x256 1) (v37 v38 : IVec S1x256 32) (v66 : FVec Ideal S1x1280 .f32)
    (v72 v71 : FVec Ideal S256x1280 .f32) (n : Fin 1280) (j : Fin 256) :
    k0_pay1 (F := Ideal) v71 (k0_pay13 v31 v37 v38 v66 v72) (ix2 j n)
      = v71 (ix2 j n) + v72 (ix2 j n) * (k0_pay9 v31 v37 v38 (ix2 0 j) * v66 (ix2 0 n)) := by
  unfold k0_pay1 k0_pay13
  pointwise

theorem grad_apply (X1 : S16384x256.Idx → EReal) (X2 : S16384x1280.Idx → EReal) (X3 : S1x1280.Idx → EReal)
    (X4 : S256x1280.Idx → EReal) (j : Fin 256) (n : Fin 1280) :
    grad (F := Ideal) X1 X2 X3 X4 (ix2 j n)
      = X4 (ix2 j n) + (∑ r : Fin 16384, quant (X1 (ix2 r j)) (invK (level (col X1 j))) * X2 (ix2 r n))
          * (scaleK (level (col X1 j)) * X3 (ix2 0 n)) := by
  unfold grad
  rw [pay13_apply, acc_apply]
  have := scale_apply X1 j
  unfold scale at this
  rw [this]

end Block

end Cert.Proof
-- ==== Proof.IdealRun.lean ====
/-
The run of the kernel over the extended reals: at each of the 32 grid points the body leaves, in the three output
blocks, what Proof/BlockRun.lean says of the blocks it fetched.

The array `x` has 31.5 blocks of 256 columns, so at the last point half of a block lies past the array's end and the
staging buffers hold words there that nothing is known of. By Proof/BlockValue.lean column `j` of each output comes
from column `j` of `x` alone, so what lies inside the array does not depend on those words.
-/
module

public import proofs.«01_k».proof.Proof.BlockValue
public import Idealize.ShloMosaic.Lib.Tactic
public import Idealize.ShloMosaic.Lib.Pipeline.Value

@[expose] public section

set_option maxRecDepth 16384
set_option maxHeartbeats 1000000

noncomputable section

namespace Cert.Proof.IdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose)
open Cert.Proof.Block

local notation "𝕄" => MT nD τ sig Unit (Elt Ideal) ℕ (UR sig nD τ) ℕ

variable (m : (ℓ : Loc nD τ sig) → Buf (Elt Ideal) ℓ) (ρ : Dev nD → PrngReg)

/-! ## The blocks -/

/-- The part inside the array of the block of `x` (of the master gradient) that point `t` fetches, -/
def xblk (c : Dev nD) (t : Fin cfg0.N) : (win0_0.xblock (grid0.coords t)).Idx → EReal := iblk m c 0 t
def gblk (c : Dev nD) (t : Fin cfg0.N) : (win0_3.xblock (grid0.coords t)).Idx → EReal := iblk m c 3 t
/-- the whole of `dy` and of its scales, -/
def dy (c : Dev nD) (t : Fin cfg0.N) : S16384x1280.Idx → EReal := iblk m c 1 t
def dys (c : Dev nD) (t : Fin cfg0.N) : S1x1280.Idx → EReal := iblk m c 2 t
/-- and the whole block, filled out with `d` past the array's end. -/
def xfill (c : Dev nD) (t : Fin cfg0.N) (d : S16384x256.Idx → EReal) : S16384x256.Idx → EReal := win0_0.fill (grid0.coords t) d (xblk m c t)
def gfill (c : Dev nD) (t : Fin cfg0.N) (d : S256x1280.Idx → EReal) : S256x1280.Idx → EReal := win0_3.fill (grid0.coords t) d (gblk m c t)

/-- How far each block reaches inside the arrays. -/
theorem xs0 : ∀ t : Fin cfg0.N, win0_0.xsize (grid0.coords t) 0 = 16384 ∧ win0_0.xsize (grid0.coords t) 1 = min 256 (8064 - 256 * t.val) := by decide +kernel
theorem xs3 : ∀ t : Fin cfg0.N, win0_3.xsize (grid0.coords t) 0 = min 256 (8064 - 256 * t.val) ∧ win0_3.xsize (grid0.coords t) 1 = 1280 := by decide +kernel
theorem xs4 : ∀ t : Fin cfg0.N, win0_4.xsize (grid0.coords t) 0 = min 256 (8064 - 256 * t.val) ∧ win0_4.xsize (grid0.coords t) 1 = 1280 := by decide +kernel
theorem xs5 : ∀ t : Fin cfg0.N, win0_5.xsize (grid0.coords t) 0 = 16384 ∧ win0_5.xsize (grid0.coords t) 1 = min 256 (8064 - 256 * t.val) := by decide +kernel
theorem xs6 : ∀ t : Fin cfg0.N, win0_6.xsize (grid0.coords t) 0 = 1 ∧ win0_6.xsize (grid0.coords t) 1 = min 256 (8064 - 256 * t.val) := by decide +kernel

/-- A column inside the array is the same whatever fills the rest. -/
theorem col_fill (c : Dev nD) (t : Fin cfg0.N) (d d' : S16384x256.Idx → EReal) (j : Fin 256) (hj : j.val < min 256 (8064 - 256 * t.val)) :
    col (xfill m c t d) j = col (xfill m c t d') j := by
  funext r
  have hm : win0_0.moved (grid0.coords t) (ix2 r j) = true := (win0_0.moved_iff _ _).mpr fun a => by
    match a with
    | ⟨0, _⟩ => exact lt_of_lt_of_eq r.isLt (xs0 t).1.symm
    | ⟨1, _⟩ => exact lt_of_lt_of_eq hj (xs0 t).2.symm
  show win0_0.fill _ _ _ _ = win0_0.fill _ _ _ _
  unfold Window.fill
  rw [dif_pos hm, dif_pos hm]

theorem gfill_eq (c : Dev nD) (t : Fin cfg0.N) (d d' : S256x1280.Idx → EReal) (j : Fin 256) (n : Fin 1280) (hj : j.val < min 256 (8064 - 256 * t.val)) :
    gfill m c t d (ix2 j n) = gfill m c t d' (ix2 j n) := by
  have hm : win0_3.moved (grid0.coords t) (ix2 j n) = true := (win0_3.moved_iff _ _).mpr fun a => by
    match a with
    | ⟨0, _⟩ => exact lt_of_lt_of_eq hj (xs3 t).1.symm
    | ⟨1, _⟩ => exact lt_of_lt_of_eq n.isLt (xs3 t).2.symm
  show win0_3.fill _ _ _ _ = win0_3.fill _ _ _ _
  unfold Window.fill
  rw [dif_pos hm, dif_pos hm]

/-- The filler the proof data use. -/
def zx : S16384x256.Idx → EReal := fun _ => 0
def zg : S256x1280.Idx → EReal := fun _ => 0

/-- The three output blocks. -/
def outG (c : Dev nD) (t : Fin cfg0.N) (d : S16384x256.Idx → EReal) (d' : S256x1280.Idx → EReal) : S256x1280.Idx → EReal :=
  grad (F := Ideal) (xfill m c t d) (dy m c t) (dys m c t) (gfill m c t d')
def outC (c : Dev nD) (t : Fin cfg0.N) (d : S16384x256.Idx → EReal) : S16384x256.Idx → EReal := codes (F := Ideal) (xfill m c t d)
def outS (c : Dev nD) (t : Fin cfg0.N) (d : S16384x256.Idx → EReal) : S1x256.Idx → EReal := scale (F := Ideal) (xfill m c t d)

/-- On what lies inside the array the output blocks do not depend on the filler either. -/
theorem outG_eq (c : Dev nD) (t : Fin cfg0.N) (d : S16384x256.Idx → EReal) (d' : S256x1280.Idx → EReal) (j : Fin 256) (n : Fin 1280)
    (hj : j.val < min 256 (8064 - 256 * t.val)) : outG m c t d d' (ix2 j n) = outG m c t zx zg (ix2 j n) := by
  unfold outG
  have hx : ∀ r : Fin 16384, xfill m c t d (ix2 r j) = xfill m c t zx (ix2 r j) := congrFun (col_fill m c t d zx j hj)
  rw [grad_apply, grad_apply, col_fill m c t d zx j hj, gfill_eq m c t d' zg j n hj]
  simp only [hx]

theorem outC_eq (c : Dev nD) (t : Fin cfg0.N) (d : S16384x256.Idx → EReal) (r : Fin 16384) (j : Fin 256)
    (hj : j.val < min 256 (8064 - 256 * t.val)) : outC m c t d (ix2 r j) = outC m c t zx (ix2 r j) := by
  unfold outC
  rw [codes_apply, codes_apply, col_fill m c t d zx j hj,
    show xfill m c t d (ix2 r j) = xfill m c t zx (ix2 r j) from congrFun (col_fill m c t d zx j hj) r]

theorem outS_eq (c : Dev nD) (t : Fin cfg0.N) (d : S16384x256.Idx → EReal) (i : Fin 1) (j : Fin 256)
    (hj : j.val < min 256 (8064 - 256 * t.val)) : outS m c t d (ix2 i j) = outS m c t zx (ix2 i j) := by
  rw [show i = 0 from Subsingleton.elim _ _]
  unfold outS
  rw [scale_apply, scale_apply, col_fill m c t d zx j hj]

theorem cut_outG (c : Dev nD) (t : Fin cfg0.N) (d : S16384x256.Idx → EReal) (d' : S256x1280.Idx → EReal) :
    win0_4.cut (grid0.coords t) (outG m c t d d') = win0_4.cut (grid0.coords t) (outG m c t zx zg) := by
  funext y
  have hy : (y 0).val < min 256 (8064 - 256 * t.val) := lt_of_lt_of_eq (y 0).isLt (xs4 t).1
  obtain ⟨z, hz⟩ : ∃ z : S256x1280.Idx, win0_4.xinj (grid0.coords t) y = z := ⟨_, rfl⟩
  have hz0 : (z 0).val < min 256 (8064 - 256 * t.val) := by rw [← hz]; exact hy
  have e : z = ix2 (z 0) (z 1) := eq_ix2 z
  exact (congrArg (outG m c t d d') (hz.trans e)).trans ((outG_eq m c t d d' (z 0) (z 1) hz0).trans
    (congrArg (outG m c t zx zg) (hz.trans e)).symm)

theorem cut_outC (c : Dev nD) (t : Fin cfg0.N) (d : S16384x256.Idx → EReal) :
    win0_5.cut (grid0.coords t) (outC m c t d) = win0_5.cut (grid0.coords t) (outC m c t zx) := by
  funext y
  have hy : (y 1).val < min 256 (8064 - 256 * t.val) := lt_of_lt_of_eq (y 1).isLt (xs5 t).2
  obtain ⟨z, hz⟩ : ∃ z : S16384x256.Idx, win0_5.xinj (grid0.coords t) y = z := ⟨_, rfl⟩
  have hz0 : (z 1).val < min 256 (8064 - 256 * t.val) := by rw [← hz]; exact hy
  have e : z = ix2 (z 0) (z 1) := eq_ix2 z
  exact (congrArg (outC m c t d) (hz.trans e)).trans ((outC_eq m c t d (z 0) (z 1) hz0).trans
    (congrArg (outC m c t zx) (hz.trans e)).symm)

theorem cut_outS (c : Dev nD) (t : Fin cfg0.N) (d : S16384x256.Idx → EReal) :
    win0_6.cut (grid0.coords t) (outS m c t d) = win0_6.cut (grid0.coords t) (outS m c t zx) := by
  funext y
  have hy : (y 1).val < min 256 (8064 - 256 * t.val) := lt_of_lt_of_eq (y 1).isLt (xs6 t).2
  obtain ⟨z, hz⟩ : ∃ z : S1x256.Idx, win0_6.xinj (grid0.coords t) y = z := ⟨_, rfl⟩
  have hz0 : (z 1).val < min 256 (8064 - 256 * t.val) := by rw [← hz]; exact hy
  have e : z = ix2 (z 0) (z 1) := eq_ix2 z
  exact (congrArg (outS m c t d) (hz.trans e)).trans ((outS_eq m c t d (z 0) (z 1) hz0).trans
    (congrArg (outS m c t zx) (hz.trans e)).symm)

/-! ## The pipeline's data and the body's obligation -/

/-- The proof data of the pipeline: the arrays as the host lines before the region leave them; after the body the
    input blocks as fetched and the output blocks as the body computes them (on the elements inside the array, for the
    blocks that overhang it). -/
def dats (_ : Fin 1) (c : Dev nD) : Dat τ (Elt Ideal) Unit ℕ (UR sig nD τ) ℕ cfg0 c where
  A w := V m c (Pipeline.arrRef spec0 w)
  after w t := match w with
    | ⟨0, _⟩ => xfill m c t zx
    | ⟨1, _⟩ => iblk m c 1 t
    | ⟨2, _⟩ => iblk m c 2 t
    | ⟨3, _⟩ => gfill m c t zg
    | ⟨4, _⟩ => outG m c t zx zg
    | ⟨5, _⟩ => outC m c t zx
    | ⟨6, _⟩ => outS m c t zx
  Φ _ := Pipeline.ΦA spec0 c
  q _ := fullShare
  owed _ := 0

theorem before_0 (c : Dev nD) (t : Fin cfg0.N) (d) :
    (dats m 0 c).before 0 t d = xfill m c t d := by
  unfold Dat.before; rw [if_pos (fetch0_0 t)]; rfl
theorem before_3 (c : Dev nD) (t : Fin cfg0.N) (d) :
    (dats m 0 c).before 3 t d = gfill m c t d := by
  unfold Dat.before; rw [if_pos (fetch0_3 t)]; rfl
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d

theorem after_0 (c : Dev nD) (t : Fin cfg0.N) : (dats m 0 c).after 0 t = xfill m c t zx := by dsimp only [dats]
theorem after_3 (c : Dev nD) (t : Fin cfg0.N) : (dats m 0 c).after 3 t = gfill m c t zg := by dsimp only [dats]
theorem after_4 (c : Dev nD) (t : Fin cfg0.N) : (dats m 0 c).after 4 t = outG m c t zx zg := by dsimp only [dats]
theorem after_5 (c : Dev nD) (t : Fin cfg0.N) : (dats m 0 c).after 5 t = outC m c t zx := by dsimp only [dats]
theorem after_6 (c : Dev nD) (t : Fin cfg0.N) : (dats m 0 c).after 6 t = outS m c t zx := by dsimp only [dats]

theorem cut_x (c : Dev nD) (t : Fin cfg0.N) : (cfg0.win 0).cut (cfg0.grid.coords t) (xfill m c t zx) = xblk m c t :=
  win0_0.cut_fill (grid0.coords t) zx (xblk m c t)
theorem cut_g (c : Dev nD) (t : Fin cfg0.N) : (cfg0.win 3).cut (cfg0.grid.coords t) (gfill m c t zg) = gblk m c t :=
  win0_3.cut_fill (grid0.coords t) zg (gblk m c t)

theorem refill_4 (c : Dev nD) (t : Fin cfg0.N) (d d') :
    (cfg0.win 4).fill (cfg0.grid.coords t) (outG m c t d d') ((cfg0.win 4).cut (cfg0.grid.coords t) (outG m c t zx zg)) = outG m c t d d' :=
  (congrArg (win0_4.fill (grid0.coords t) (outG m c t d d')) (cut_outG m c t d d').symm).trans (win0_4.fill_cut (grid0.coords t) (outG m c t d d'))
theorem refill_5 (c : Dev nD) (t : Fin cfg0.N) (d) :
    (cfg0.win 5).fill (cfg0.grid.coords t) (outC m c t d) ((cfg0.win 5).cut (cfg0.grid.coords t) (outC m c t zx)) = outC m c t d :=
  (congrArg (win0_5.fill (grid0.coords t) (outC m c t d)) (cut_outC m c t d).symm).trans (win0_5.fill_cut (grid0.coords t) (outC m c t d))
theorem refill_6 (c : Dev nD) (t : Fin cfg0.N) (d) :
    (cfg0.win 6).fill (cfg0.grid.coords t) (outS m c t d) ((cfg0.win 6).cut (cfg0.grid.coords t) (outS m c t zx)) = outS m c t d :=
  (congrArg (win0_6.fill (grid0.coords t) (outS m c t d)) (cut_outS m c t d).symm).trans (win0_6.fill_cut (grid0.coords t) (outS m c t d))

/-- The body's obligation in the pipeline's form. -/
theorem body_obligation (c : Dev nD) : BodyObligationLoose (dats m 0 c) (defs₀ (F := Ideal)) 𝒱₀ () Set.univ := fun t => by
  rw [bigSep_W0, bigSep_W0]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨%f8, H8⟩, Hp⟩, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_3 m c t d3]
  iapply (sound_body (F := Ideal) c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (Memref.whole cc0_scratch0) (Memref.isWhole_whole _)
    (xfill m c t d0) (dy m c t) (dys m c t) (gfill m c t d3) _ _ _ f8 _)
  isplitl [H0 H1 H2 H3 H4 H5 H6 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    rw [owns_whole]
    iexact H8
  iintro ⟨H0, H1, H2, H3, H4, H5, H6, ⟨%g8, H8⟩⟩
  isplitl [H8 Hp]
  · isplitl [H8]
    · iexists g8
      rw [owns_whole]
      exact BI.Entails.refl _
    · iexact Hp
  isplitl [Ho]; · iexact Ho
  isplitl [H0]
  · iexists d0
    rw [after_0 m c t, cut_x m c t]
    iexact H0
  isplitl [H1]; · iexact H1
  isplitl [H2]; · iexact H2
  isplitl [H3]
  · iexists d3
    rw [after_3 m c t, cut_g m c t]
    iexact H3
  isplitl [H4]
  · iexists (outG m c t d0 d3)
    rw [after_4 m c t, refill_4 m c t d0 d3]
    iexact H4
  isplitl [H5]
  · iexists (outC m c t d0)
    rw [after_5 m c t, refill_5 m c t d0]
    iexact H5
  iexists (outS m c t d0)
  rw [after_6 m c t, refill_6 m c t d0]
  iexact H6

/-- From any memory with zero counters the program terminates and faults nowhere; every array of the region then holds
    what the pipeline writes back, every other buffer what the host lines leave, and every counter is zero. -/
theorem run : θ_run defs (onTc (τ := τ) (main (F := Ideal))) ⟨m, fun _ => 0, ρ⟩
    (fun r => Pipeline.FramePost cfgs (dats m) 0 (Pipeline.afterTail₀ cfgs (dats m) 0 (V0 m) [hostOps1]) r ∧ r.2.sem = fun _ => 0) :=
  Pipeline.θ_run_frame_around cfgs (dats m) 0 launch0 defs₀ 𝒱₀ m ρ main (body_obligation m)
    (fun c => (dats m 0 c).share_full fun _ => rfl) (fun _ _ => rfl) (V0 m) [hostOps1] sfx_sub sfx_fresh sfx_keeps
    (hmain m 𝒱₀) (fun _ _ => rfl) (fun _ _ => rfl) _ (fun _ h => h)

end Cert.Proof.IdealRun

end
-- ==== Proof.Values.lean ====
/-
The three results as functions of the four arguments, each argument read as a table of extended reals: `x` by row and
column, `dy` by row and column, the scales of `dy` by column, the master gradient by column of `x` and column of `dy`.
Both programs compute these (Proof/IdealArrays.lean, Proof/RefValue.lean).
-/
module

public import proofs.«01_k».proof.Proof.BlockValue

@[expose] public section

noncomputable section

namespace Cert.Proof

open Idealize.ShloMosaic
open Cert.Proof.Scale

variable (X : Fin 16384 → Fin 8064 → EReal) (DY : Fin 16384 → Fin 1280 → EReal) (DYS : Fin 1280 → EReal)
  (MG : Fin 8064 → Fin 1280 → EReal)

/-- Column `j`'s level: its largest absolute value over 448 (times the constant nearest to 1/448). -/
def levelOf (j : Fin 8064) : EReal := level fun r => X r j

/-- The scale of column `j`: the power of two the quantiser divides the column by. -/
def scaleOf (j : Fin 8064) : EReal := scaleR (levelOf X j)

/-- The code of element `(r, j)`: the element over its column's scale, clipped to ±448. -/
def codeOf (r : Fin 16384) (j : Fin 8064) : EReal := quant (X r j) (invR (levelOf X j))

/-- The gradient at `(j, n)`: the master gradient plus the product of the codes with `dy`, scaled back. -/
def gradOf (j : Fin 8064) (n : Fin 1280) : EReal :=
  MG j n + (∑ r : Fin 16384, codeOf X r j * DY r n) * (scaleOf X j * DYS n)

end Cert.Proof

end
-- ==== Proof.IdealArrays.lean ====
/-
What the arrays of the kernel hold when the run over the extended reals ends: block by block the values of
Proof/BlockValue.lean, and the blocks cover the arrays.
-/
module

public import proofs.«01_k».proof.Proof.IdealRun
public import proofs.«01_k».proof.Proof.Values
public import Idealize.ShloMosaic.Lib.Pipeline.ValueKit

@[expose] public section

set_option maxRecDepth 16384
set_option maxHeartbeats 1000000

noncomputable section

namespace Cert.Proof.IdealRun

open Cert.KernelIdeal Cert.KernelIdeal.Gen

open Idealize.ShloMosaic
open Idealize.ShloMosaic.TcCoe
open Idealize.SL Idealize.SL.RA
open Idealize.ShloMosaic.Pipeline (Dat RDat Cfg Window)
open Cert.Proof.Block Cert.Proof.Scale

variable (m : (ℓ : Loc nD τ sig) → Buf (Elt Ideal) ℓ) (ρ : Dev nD → PrngReg)

/-! ## The arrays the region reads, as tables -/

def tabX (c : Dev nD) (r : Fin 16384) (j : Fin 8064) : EReal := V m c main_v0 (ix2 r j)
def tabDY (c : Dev nD) (r : Fin 16384) (n : Fin 1280) : EReal := V m c main_v1 (ix2 r n)
def tabDYS (c : Dev nD) (n : Fin 1280) : EReal := V m c main_v2 (ix2 0 n)
def tabMG (c : Dev nD) (j : Fin 8064) (n : Fin 1280) : EReal := V m c main_arg3 (ix2 j n)

/-! ## Where the blocks lie -/

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, t.val] := (by decide +kernel : ∀ t : Fin grid0.N, _)
theorem idx6 : ∀ t : Fin cfg0.N, win0_6.index t = ![0, t.val] := (by decide +kernel : ∀ t : Fin grid0.N, _)

/-- Column `j` of point `t`'s block, in the array. -/
def at_ (t : Fin cfg0.N) (j : Fin 256) (hj : j.val < min 256 (8064 - 256 * t.val)) : Fin 8064 := ⟨256 * t.val + j.val, by omega⟩

theorem xfill_apply (c : Dev nD) (t : Fin cfg0.N) (r : Fin 16384) (j : Fin 256) (hj : j.val < min 256 (8064 - 256 * t.val)) :
    xfill m c t zx (ix2 r j) = tabX m c r (at_ t j hj) := by
  have hm : win0_0.moved (grid0.coords t) (ix2 r j) = true := (win0_0.moved_iff _ _).mpr fun a => by
    match a with
    | ⟨0, _⟩ => exact lt_of_lt_of_eq r.isLt (xs0 t).1.symm
    | ⟨1, _⟩ => exact lt_of_lt_of_eq hj (xs0 t).2.symm
  show win0_0.fill _ _ _ _ = _
  unfold Window.fill
  rw [dif_pos hm]
  unfold xblk tabX
  blk_simp [iblk]
  refine congrArg (V m c main_v0) ?_
  blk_ext [idx0 t, at_]

theorem gfill_apply (c : Dev nD) (t : Fin cfg0.N) (j : Fin 256) (n : Fin 1280) (hj : j.val < min 256 (8064 - 256 * t.val)) :
    gfill m c t zg (ix2 j n) = tabMG m c (at_ t j hj) n := by
  have hm : win0_3.moved (grid0.coords t) (ix2 j n) = true := (win0_3.moved_iff _ _).mpr fun a => by
    match a with
    | ⟨0, _⟩ => exact lt_of_lt_of_eq hj (xs3 t).1.symm
    | ⟨1, _⟩ => exact lt_of_lt_of_eq n.isLt (xs3 t).2.symm
  show win0_3.fill _ _ _ _ = _
  unfold Window.fill
  rw [dif_pos hm]
  unfold gblk tabMG
  blk_simp [iblk]
  refine congrArg (V m c main_arg3) ?_
  blk_ext [idx3 t, at_]

theorem dy_apply (c : Dev nD) (t : Fin cfg0.N) (r : Fin 16384) (n : Fin 1280) : dy m c t (ix2 r n) = tabDY m c r n := by
  unfold dy tabDY
  blk_simp [iblk]
  refine congrArg (V m c main_v1) ?_
  blk_ext [idx1 t]

theorem dys_apply (c : Dev nD) (t : Fin cfg0.N) (n : Fin 1280) : dys m c t (ix2 0 n) = tabDYS m c n := by
  unfold dys tabDYS
  blk_simp [iblk]
  refine congrArg (V m c main_v2) ?_
  blk_ext [idx2 t]

/-! ## The blocks written back, at coordinates of the arrays -/

theorem col_apply (c : Dev nD) (t : Fin cfg0.N) (j : Fin 256) (hj : j.val < min 256 (8064 - 256 * t.val)) :
    level (col (xfill m c t zx) j) = levelOf (tabX m c) (at_ t j hj) :=
  congrArg level (funext fun r => xfill_apply m c t r j hj)

theorem outS_apply (c : Dev nD) (t : Fin cfg0.N) (i : Fin 1) (j : Fin 256) (hj : j.val < min 256 (8064 - 256 * t.val)) :
    outS m c t zx (ix2 i j) = scaleOf (tabX m c) (at_ t j hj) := by
  rw [show i = 0 from Subsingleton.elim _ _]
  unfold outS scaleOf
  rw [Block.scale_apply, scale_eq _ (level_nonneg _), col_apply m c t j hj]

theorem outC_apply (c : Dev nD) (t : Fin cfg0.N) (r : Fin 16384) (j : Fin 256) (hj : j.val < min 256 (8064 - 256 * t.val)) :
    outC m c t zx (ix2 r j) = codeOf (tabX m c) r (at_ t j hj) := by
  unfold outC codeOf
  rw [codes_apply, inv_eq _ (level_nonneg _), col_apply m c t j hj, xfill_apply m c t r j hj]

theorem outG_apply (c : Dev nD) (t : Fin cfg0.N) (j : Fin 256) (n : Fin 1280) (hj : j.val < min 256 (8064 - 256 * t.val)) :
    outG m c t zx zg (ix2 j n) = gradOf (tabX m c) (tabDY m c) (tabDYS m c) (tabMG m c) (at_ t j hj) n := by
  have hx : ∀ r : Fin 16384, xfill m c t zx (ix2 r j) = tabX m c r (at_ t j hj) := fun r => xfill_apply m c t r j hj
  have hd : ∀ r : Fin 16384, dy m c t (ix2 r n) = tabDY m c r n := fun r => dy_apply m c t r n
  unfold outG gradOf codeOf scaleOf
  rw [grad_apply, scale_eq _ (level_nonneg _), inv_eq _ (level_nonneg _), col_apply m c t j hj, gfill_apply m c t j n hj, dys_apply]
  simp only [hx, hd]

/-- The same at any index of the block, with its place in the array given by its coordinates. -/
theorem outG_at (c : Dev nD) (t : Fin cfg0.N) (z : S256x1280.Idx) (J : Fin 8064) (N : Fin 1280)
    (hJ : J.val = 256 * t.val + (z 0).val) (hN : N.val = (z 1).val) :
    outG m c t zx zg z = gradOf (tabX m c) (tabDY m c) (tabDYS m c) (tabMG m c) J N := by
  obtain ⟨j, hj⟩ : ∃ j : Fin 256, z 0 = j := ⟨_, rfl⟩
  obtain ⟨n, hn⟩ : ∃ n : Fin 1280, z 1 = n := ⟨_, rfl⟩
  have hJ' : J.val = 256 * t.val + j.val := by rw [hJ, hj]
  have hlt : j.val < min 256 (8064 - 256 * t.val) := by have := J.isLt; have := j.isLt; omega
  have e : z = ix2 j n := by rw [← hj, ← hn]; exact eq_ix2 z
  rw [e, outG_apply m c t j n hlt, show at_ t j hlt = J from Fin.ext hJ'.symm, show n = N from Fin.ext (by rw [hN, hn])]

theorem outC_at (c : Dev nD) (t : Fin cfg0.N) (z : S16384x256.Idx) (R : Fin 16384) (J : Fin 8064)
    (hJ : J.val = 256 * t.val + (z 1).val) (hR : R.val = (z 0).val) :
    outC m c t zx z = codeOf (tabX m c) R J := by
  obtain ⟨j, hj⟩ : ∃ j : Fin 256, z 1 = j := ⟨_, rfl⟩
  obtain ⟨r, hr⟩ : ∃ r : Fin 16384, z 0 = r := ⟨_, rfl⟩
  have hJ' : J.val = 256 * t.val + j.val := by rw [hJ, hj]
  have hlt : j.val < min 256 (8064 - 256 * t.val) := by have := J.isLt; have := j.isLt; omega
  have e : z = ix2 r j := by rw [← hj, ← hr]; exact eq_ix2 z
  rw [e, outC_apply m c t r j hlt, show at_ t j hlt = J from Fin.ext hJ'.symm, show r = R from Fin.ext (by rw [hR, hr])]

theorem outS_at (c : Dev nD) (t : Fin cfg0.N) (z : S1x256.Idx) (J : Fin 8064) (hJ : J.val = 256 * t.val + (z 1).val) :
    outS m c t zx z = scaleOf (tabX m c) J := by
  obtain ⟨j, hj⟩ : ∃ j : Fin 256, z 1 = j := ⟨_, rfl⟩
  obtain ⟨i, hi⟩ : ∃ i : Fin 1, z 0 = i := ⟨_, rfl⟩
  have hJ' : J.val = 256 * t.val + j.val := by rw [hJ, hj]
  have hlt : j.val < min 256 (8064 - 256 * t.val) := by have := J.isLt; have := j.isLt; omega
  have e : z = ix2 i j := by rw [← hj, ← hi]; exact eq_ix2 z
  rw [e, outS_apply m c t i j hlt, show at_ t j hlt = J from Fin.ext hJ'.symm]

/-! ## The arrays at the end -/

theorem emb4 (t : Fin cfg0.N) (y : (win0_4.xblock (grid0.coords t)).Idx) (a : Fin 2) :
    ((win0_4.blk t).view.emb y a).val = win0_4.index t a * win0_4.size a + (y a).val :=
  ValueKit.view_emb_slice_whole_unit_val main_v3_0 _ _ _ y a
theorem emb5 (t : Fin cfg0.N) (y : (win0_5.xblock (grid0.coords t)).Idx) (a : Fin 2) :
    ((win0_5.blk t).view.emb y a).val = win0_5.index t a * win0_5.size a + (y a).val :=
  ValueKit.view_emb_slice_whole_unit_val main_v3_1 _ _ _ y a
theorem emb6 (t : Fin cfg0.N) (y : (win0_6.xblock (grid0.coords t)).Idx) (a : Fin 2) :
    ((win0_6.blk t).view.emb y a).val = win0_6.index t a * win0_6.size a + (y a).val :=
  ValueKit.view_emb_slice_whole_unit_val main_v3_2 _ _ _ y a

theorem emb4_0 (t : Fin cfg0.N) (y : (win0_4.xblock (grid0.coords t)).Idx) : ((win0_4.blk t).view.emb y 0).val = 256 * t.val + (y 0).val := by
  rw [emb4 t y 0, idx4 t]; exact congrArg (· + _) (Nat.mul_comm t.val 256)
theorem emb4_1 (t : Fin cfg0.N) (y : (win0_4.xblock (grid0.coords t)).Idx) : ((win0_4.blk t).view.emb y 1).val = (y 1).val := by
  rw [emb4 t y 1, idx4 t]; exact (congrArg (· + _) (Nat.zero_mul 1280)).trans (Nat.zero_add _)
theorem emb5_1 (t : Fin cfg0.N) (y : (win0_5.xblock (grid0.coords t)).Idx) : ((win0_5.blk t).view.emb y 1).val = 256 * t.val + (y 1).val := by
  rw [emb5 t y 1, idx5 t]; exact congrArg (· + _) (Nat.mul_comm t.val 256)
theorem emb5_0 (t : Fin cfg0.N) (y : (win0_5.xblock (grid0.coords t)).Idx) : ((win0_5.blk t).view.emb y 0).val = (y 0).val := by
  rw [emb5 t y 0, idx5 t]
  generalize win0_5.size 0 = k
  exact (congrArg (· + _) (Nat.zero_mul k)).trans (Nat.zero_add _)
theorem emb6_1 (t : Fin cfg0.N) (y : (win0_6.xblock (grid0.coords t)).Idx) : ((win0_6.blk t).view.emb y 1).val = 256 * t.val + (y 1).val := by
  rw [emb6 t y 1, idx6 t]; exact congrArg (· + _) (Nat.mul_comm t.val 256)

/-- What the three results hold. -/
def resG (c : Dev nD) (y : S8064x1280.Idx) : EReal := gradOf (tabX m c) (tabDY m c) (tabDYS m c) (tabMG m c) (y 0) (y 1)
def resC (c : Dev nD) (y : S16384x8064.Idx) : EReal := codeOf (tabX m c) (y 0) (y 1)
def resS (c : Dev nD) (y : S1x8064.Idx) : EReal := scaleOf (tabX m c) (y 1)

theorem cov4 : win0_4.Covers := by decide +kernel
theorem cov5 : win0_5.Covers := by decide +kernel
theorem cov6 : win0_6.Covers := by decide +kernel

theorem arr_4 (c : Dev nD) : (dats m 0 c).arrAt 4 cfg0.N = resG m c :=
  (dats m 0 c).arrAt_eq_of_covers 4 (resG m c) cov4 fun t hf y => by
    rw [after_4]
    exact outG_at m c t (win0_4.xinj (grid0.coords t) y) _ _ (emb4_0 t y) (emb4_1 t y)

theorem arr_5 (c : Dev nD) : (dats m 0 c).arrAt 5 cfg0.N = resC m c :=
  (dats m 0 c).arrAt_eq_of_covers 5 (resC m c) cov5 fun t hf y => by
    rw [after_5]
    exact outC_at m c t (win0_5.xinj (grid0.coords t) y) _ _ (emb5_1 t y) (emb5_0 t y)

theorem arr_6 (c : Dev nD) : (dats m 0 c).arrAt 6 cfg0.N = resS m c :=
  (dats m 0 c).arrAt_eq_of_covers 6 (resS m c) cov6 fun t hf y => by
    rw [after_6]
    exact outS_at m c t (win0_6.xinj (grid0.coords t) y) _ (emb6_1 t y)

/-- `Cert.quiescent_KernelIdeal`: the run's post at the arguments, and the counters. -/
theorem frame_kernel : Cert.quiescent_KernelIdeal := fun m ρ _ =>
  (θ_run defs _ _).mono (fun _ h => ⟨fun c => ⟨
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).1 3).trans (((dats m 0 c).arrAt_in 3 rfl _).trans (V_main_arg3 m c))⟩, h.2⟩) (run m ρ)

end Cert.Proof.IdealRun

end
-- ==== Proof.IdealHost.lean ====
/-
The host lines of the kernel around its one region: before it the arguments are reshaped, after it the codes and the
scales are.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.IdealHost

@[expose] public section

set_option maxRecDepth 16384
set_option maxHeartbeats 1000000

noncomputable section

namespace Cert.Proof.IdealRun

open Cert.KernelIdeal Cert.KernelIdeal.Gen
open Idealize.ShloMosaic
open Idealize.ShloMosaic.TcCoe
open Idealize.SL Idealize.SL.RA
open Idealize.ShloMosaic.Pipeline (Dat)

variable (m : (ℓ : Loc nD τ sig) → Buf (Elt Ideal) ℓ)

/-- What the region finds in its first three arrays: the reshaped arguments. -/
theorem V_v0 (c : Dev nD) : V m c main_v0 = shapeCast S16384x8064 (m ((c : Thread nD τ).loc main_arg0)) shapeCasts_S8x2048x8064_S16384x8064 := by
  unfold V V0
  simp only [hostOps0, List.flatten_cons, List.flatten_nil, List.append_nil, StableHlo.after_cons, StableHlo.after_nil]
  rw [StableHlo.reshape_result_ne (h := (by decide : main_v0 ≠ main_v2)), StableHlo.reshape_result_ne (h := (by decide : main_v0 ≠ main_v1)), StableHlo.reshape_result']
  rfl
theorem V_v1 (c : Dev nD) : V m c main_v1 = shapeCast S16384x1280 (m ((c : Thread nD τ).loc main_arg1)) shapeCasts_S8x2048x1280_S16384x1280 := by
  unfold V V0
  simp only [hostOps0, List.flatten_cons, List.flatten_nil, List.append_nil, StableHlo.after_cons, StableHlo.after_nil]
  rw [StableHlo.reshape_result_ne (h := (by decide : main_v1 ≠ main_v2)), StableHlo.reshape_result', StableHlo.reshape_result_ne (h := (by decide : main_arg1 ≠ main_v0))]
  rfl
theorem V_v2 (c : Dev nD) : V m c main_v2 = shapeCast S1x1280 (m ((c : Thread nD τ).loc main_arg2)) shapeCasts_S1280_S1x1280 := by
  unfold V V0
  simp only [hostOps0, List.flatten_cons, List.flatten_nil, List.append_nil, StableHlo.after_cons, StableHlo.after_nil]
  rw [StableHlo.reshape_result', StableHlo.reshape_result_ne (h := (by decide : main_arg2 ≠ main_v1)), StableHlo.reshape_result_ne (h := (by decide : main_arg2 ≠ main_v0))]
  rfl

theorem arr_inj : Function.Injective (Pipeline.arrRef spec0) := by decide

/-- What the lines after it leave in the second and the third result: the reshaped codes and scales. -/
theorem W_v4 (dats : (p : Fin 1) → (c : Dev nD) → Dat τ (Elt Ideal) Unit ℕ (UR sig nD τ) ℕ (cfgs p) c) (c : Dev nD) :
    Pipeline.afterTail₀ cfgs dats 0 (V0 m) [hostOps1] c main_v4
      = shapeCast S8x2048x8064 ((dats 0 c).arrAt 5 cfg0.N : S16384x8064.Idx → EReal) shapeCasts_S16384x8064_S8x2048x8064 := by
  unfold Pipeline.afterTail₀
  simp only [hostOps1, List.flatten_cons, List.flatten_nil, List.append_nil, StableHlo.after_cons, StableHlo.after_nil]
  rw [StableHlo.reshape_result_ne (h := (by decide : main_v4 ≠ main_v5)), StableHlo.reshape_result']
  exact congrArg (fun A : S16384x8064.Idx → EReal => shapeCast S8x2048x8064 A shapeCasts_S16384x8064_S8x2048x8064)
    (Pipeline.withArrays_arr spec0 arr_inj c (V0 m c) (fun w => (dats 0 c).arrAt w cfg0.N) 5)
theorem W_v5 (dats : (p : Fin 1) → (c : Dev nD) → Dat τ (Elt Ideal) Unit ℕ (UR sig nD τ) ℕ (cfgs p) c) (c : Dev nD) :
    Pipeline.afterTail₀ cfgs dats 0 (V0 m) [hostOps1] c main_v5
      = shapeCast S8064 ((dats 0 c).arrAt 6 cfg0.N : S1x8064.Idx → EReal) shapeCasts_S1x8064_S8064 := by
  unfold Pipeline.afterTail₀
  simp only [hostOps1, List.flatten_cons, List.flatten_nil, List.append_nil, StableHlo.after_cons, StableHlo.after_nil]
  rw [StableHlo.reshape_result', StableHlo.reshape_result_ne (h := (by decide : main_v3_2 ≠ main_v4))]
  exact congrArg (fun A : S1x8064.Idx → EReal => shapeCast S8064 A shapeCasts_S1x8064_S8064)
    (Pipeline.withArrays_arr spec0 arr_inj c (V0 m c) (fun w => (dats 0 c).arrAt w cfg0.N) 6)

end Cert.Proof.IdealRun

end
-- ==== Proof.RefBlock.lean ====
/-
What the reference's one kernel computes over the extended reals, element by element: Proof/Values.lean's functions of
the whole arrays. Each value is read over a variable that stands for the value before it.
-/
module

public import proofs.«01_k».proof.Proof.Values
public import proofs.«01_k».proof.Proof.Gen.ReferenceIdeal
public import proofs.«01_k».proof.Proof.Gen.ReferenceIdeal.Skeleton
public import Idealize.ShloMosaic.Lib.IdealHost

@[expose] public section

set_option maxRecDepth 16384
set_option maxHeartbeats 1000000

noncomputable section

namespace Cert.Proof.Ref

open Cert.ReferenceIdeal Cert.ReferenceIdeal.Gen
open Idealize.ShloMosaic
open Cert.Proof.Scale

/-! ## The level and the exponent -/

/-- The columns' levels from their maxima. -/
def levels (a : FVec Ideal S8064 .f32) : FVec Ideal S1x8064 .f32 :=
  mulf (shapeCast S1x8064 a shapeCasts_S8064_S1x8064) (broadcast S1x8064 (Scalar.ofBits .f32 0x3B124925#32))

/-- The exponents from the levels. -/
def exps (v7 : FVec Ideal S1x8064 .f32) : FVec Ideal S1x8064 .f32 :=
  select (andi (cmpf .oge v7 (broadcast S1x8064 (Scalar.ofBits .f32 0x00800000#32))) (cmpf .olt v7 (broadcast S1x8064 (Scalar.ofBits .f32 0x7F800000#32))))
    (addf (floor (divf (log v7) (log (broadcast S1x8064 (Scalar.ofBits .f32 0x40000000#32))))) (broadcast S1x8064 (Scalar.ofBits .f32 0x3F800000#32)))
    (broadcast S1x8064 (Scalar.ofBits .f32 0x00000000#32))

/-- The powers from the exponents, -/
def pows (e : FVec Ideal S1x8064 .f32) : FVec Ideal S1x8064 .f32 :=
  select (cmpf .oge e (broadcast S1x8064 (Scalar.ofBits .f32 0x43000000#32))) (broadcast S1x8064 (Scalar.ofBits .f32 0x7F800000#32))
    (select (cmpf .ole e (broadcast S1x8064 (Scalar.ofBits .f32 0xC2FE0000#32))) (broadcast S1x8064 (Scalar.ofBits .f32 0x00000000#32)) (exp2 e))

/-- and the exponents' negatives. -/
def negs (e : FVec Ideal S1x8064 .f32) : FVec Ideal S1x8064 .f32 := subf (broadcast S1x8064 (Scalar.ofBits .f32 0x00000000#32)) e

/-- The codes from the values and their columns' factors. -/
def quants (v2 : FVec Ideal S16384x8064 .f32) (inv : FVec Ideal S1x8064 .f32) : FVec Ideal S16384x8064 .fp8e4m3 :=
  truncf .fp8e4m3 (minimumf (broadcast S16384x8064 (Scalar.ofBits .f32 0x43E00000#32))
    (maximumf (broadcast S16384x8064 (Scalar.ofBits .f32 0xC3E00000#32)) (mulf v2 (broadcastTo S16384x8064 inv broadcasts_S1x8064_S16384x8064)))) bitsLt_fp8e4m3_f32

/-- The columns' maxima. -/
def maxima (v2 : FVec Ideal S16384x8064 .f32) : FVec Ideal S8064 .f32 :=
  multiReduction .maximumf [0] S8064 (absf v2) 0xFF800000#32 reduces_S16384x8064_S8064 (.inl rfl) rfl

theorem exps_apply (v : FVec Ideal S1x8064 .f32) (i : S1x8064.Idx) : exps v i = expR (v i) := by
  show Scalar.select _ (Ideal.liftRound Int.floor (Ideal.div (Ideal.log (v i)) (Ideal.log (Ideal.ofBits .f32 1073741824#32))) + Ideal.ofBits .f32 0x3F800000#32) (Ideal.ofBits .f32 0x00000000#32) = _
  rw [Ideal.ofBits_one_f32, Ideal.ofBits_zero_f32]
  rfl

theorem pows_apply (e : FVec Ideal S1x8064 .f32) (i : S1x8064.Idx) : pows e i = powR (e i) := by
  show Scalar.select _ _ (Scalar.select _ (Ideal.ofBits .f32 0x00000000#32) _) = _
  rw [Ideal.ofBits_zero_f32]
  rfl

theorem negs_apply (e : FVec Ideal S1x8064 .f32) (i : S1x8064.Idx) : negs e i = 0 - e i := by
  show Ideal.ofBits .f32 0x00000000#32 - e i = _
  rw [Ideal.ofBits_zero_f32]

theorem levels_apply (a : FVec Ideal S8064 .f32) (j : Fin 8064) : levels a (ix2 0 j) = a (ix1 j) * Ideal.ofBits .f32 991054117#32 := by
  refine congrArg (· * Ideal.ofBits .f32 991054117#32) ((shapeCast_addUnit_apply ![8064] a _ (ix2 0 j)).trans (congrArg a (funext fun x => ?_)))
  match x with | ⟨0, _⟩ => rfl

theorem maxima_apply (v2 : FVec Ideal S16384x8064 .f32) (j : Fin 8064) : maxima v2 (ix1 j) = colSup fun r => v2 (ix2 r j) := by
  refine eq_of_forall_ge_iff fun z => ?_
  refine (Block.reduce_le_iff _ _ Block.neg_inf_f32 _ _ _ _ z).trans (Iff.trans ?_ (colSup_le_iff _ z).symm)
  refine forall_congr' fun r => ?_
  have hl : (reduces_S16384x8064_S8064).lift (ix1 j) r = ix2 (n0 := 16384) (n1 := 8064) r j := by
    funext a; match a with | ⟨0, _⟩ => rfl | ⟨1, _⟩ => rfl
  rw [hl]
  rfl

theorem quants_apply (v2 : FVec Ideal S16384x8064 .f32) (inv : FVec Ideal S1x8064 .f32) (r : Fin 16384) (j : Fin 8064) :
    quants v2 inv (ix2 r j) = quant (v2 (ix2 r j)) (inv (ix2 0 j)) := by
  unfold quants
  pointwise
  rfl

/-- The gradient from the codes, the scales and the other arguments. -/
def grads (c : FVec Ideal S16384x8064 .fp8e4m3) (s : FVec Ideal S1x8064 .f32) (v53 : FVec Ideal S16384x1280 .fp8e5m2)
    (v56 : FVec Ideal S8064x1280 .f32) (v58 : FVec Ideal S1x1280 .f32) : FVec Ideal S8064x1280 .f32 :=
  addf v56 (mulf (matmul dot_S16384x8064_S16384x1280_S8064x1280_0_0_1_1_n_n none c
      (shapeCast S16384x1280 v53 shapeCasts_S16384x1280_S16384x1280) (constant S8064x1280 .f32 0x00000000#32))
    (mulf (broadcastTo S8064x1280 (transpose S8064x1 [1, 0] s transposes_S1x8064_p1_0_S8064x1) broadcasts_S8064x1_S8064x1280)
      (broadcastTo S8064x1280 (shapeCast S1x1280 v58 shapeCasts_S1x1280_S1x1280) broadcasts_S1x1280_S8064x1280)))

theorem grads_apply (c : FVec Ideal S16384x8064 .fp8e4m3) (s : FVec Ideal S1x8064 .f32) (v53 : FVec Ideal S16384x1280 .fp8e5m2)
    (v56 : FVec Ideal S8064x1280 .f32) (v58 : FVec Ideal S1x1280 .f32) (j : Fin 8064) (n : Fin 1280) :
    grads c s v53 v56 v58 (ix2 j n)
      = v56 (ix2 j n) + (∑ r : Fin 16384, c (ix2 r j) * v53 (ix2 r n)) * (s (ix2 0 j) * v58 (ix2 0 n)) := by
  unfold grads
  rw [shapeCast_id, shapeCast_id]
  pointwise

/-! ## The reference's values -/

theorem pay3_apply (v0 : Vec Ideal S16384x8064 .bf16) (r : Fin 16384) (j : Fin 8064) : k0_pay3 (F := Ideal) v0 (ix2 r j) = v0 (ix2 r j) := by
  unfold k0_pay3
  rw [shapeCast_id]
  rfl

theorem pay4_eq (v0 : Vec Ideal S16384x8064 .bf16) : k0_pay4 (F := Ideal) v0 = exps (levels (maxima (k0_pay3 (F := Ideal) v0))) := rfl
theorem pay5_eq (v0 : Vec Ideal S16384x8064 .bf16) : k0_pay5 (F := Ideal) v0 = pows (k0_pay4 (F := Ideal) v0) := rfl
theorem pay1_eq (v0 : Vec Ideal S16384x8064 .bf16) :
    k0_pay1 (F := Ideal) (k0_pay3 v0) (k0_pay6 v0) (k0_pay7 v0) (k0_pay8 v0) = quants (k0_pay3 v0) (pows (negs (k0_pay4 v0))) := rfl
theorem pay2_eq (v0 : Vec Ideal S16384x8064 .bf16) (v53 : Vec Ideal S16384x1280 .fp8e5m2) (v56 : Vec Ideal S8064x1280 .f32) (v58 : Vec Ideal S1x1280 .f32) :
    k0_pay2 (F := Ideal) (k0_pay3 v0) (k0_pay5 v0) (k0_pay6 v0) (k0_pay7 v0) (k0_pay8 v0) v53 v56 v58
      = grads (k0_pay1 (F := Ideal) (k0_pay3 v0) (k0_pay6 v0) (k0_pay7 v0) (k0_pay8 v0)) (k0_pay5 v0) v53 v56 v58 := rfl

theorem exp_apply (v0 : Vec Ideal S16384x8064 .bf16) (j : Fin 8064) :
    k0_pay4 (F := Ideal) v0 (ix2 0 j) = expR (levelOf (fun r j => v0 (ix2 r j)) j) := by
  rw [pay4_eq, exps_apply, levels_apply, maxima_apply]
  refine congrArg (fun f => expR (colSup f * Ideal.ofBits .f32 991054117#32)) (funext fun r => pay3_apply v0 r j)

/-- The scales, -/
theorem scale_apply (v0 : Vec Ideal S16384x8064 .bf16) (j : Fin 8064) :
    k0_pay5 (F := Ideal) v0 (ix2 0 j) = scaleOf (fun r j => v0 (ix2 r j)) j := by
  rw [pay5_eq, pows_apply, exp_apply]
  rfl

/-- the codes -/
theorem code_apply (v0 : Vec Ideal S16384x8064 .bf16) (r : Fin 16384) (j : Fin 8064) :
    k0_pay1 (F := Ideal) (k0_pay3 v0) (k0_pay6 v0) (k0_pay7 v0) (k0_pay8 v0) (ix2 r j) = codeOf (fun r j => v0 (ix2 r j)) r j := by
  rw [pay1_eq, quants_apply, pows_apply, negs_apply, exp_apply, pay3_apply]
  rfl

/-- and the gradient. -/
theorem grad_apply (v0 : Vec Ideal S16384x8064 .bf16) (v53 : Vec Ideal S16384x1280 .fp8e5m2) (v56 : Vec Ideal S8064x1280 .f32)
    (v58 : Vec Ideal S1x1280 .f32) (j : Fin 8064) (n : Fin 1280) :
    k0_pay2 (F := Ideal) (k0_pay3 v0) (k0_pay5 v0) (k0_pay6 v0) (k0_pay7 v0) (k0_pay8 v0) v53 v56 v58 (ix2 j n)
      = gradOf (fun r j => v0 (ix2 r j)) (fun r n => v53 (ix2 r n)) (fun n => v58 (ix2 0 n)) (fun j n => v56 (ix2 j n)) j n := by
  rw [pay2_eq, grads_apply, scale_apply]
  simp only [code_apply]
  rfl

end Cert.Proof.Ref

end
-- ==== Proof.RefHost.lean ====
/-
The host lines of the reference around its one region: before it the arguments are reshaped, after it the codes and the
scales are.
-/
module

public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Lib.IdealHost

@[expose] public section

set_option maxRecDepth 16384
set_option maxHeartbeats 1000000

noncomputable section

namespace Cert.Proof.Ref

open Cert.ReferenceIdeal Cert.ReferenceIdeal.Gen
open Idealize.ShloMosaic
open Idealize.ShloMosaic.TcCoe
open Idealize.SL Idealize.SL.RA
open Idealize.ShloMosaic.Pipeline (Dat)

variable (m : (ℓ : Loc nD τ sig) → Buf (Elt Ideal) ℓ)

/-- What the region finds in its first three arrays: the reshaped arguments. -/
theorem V_v0 (c : Dev nD) : V m c main_v0 = shapeCast S16384x8064 (m ((c : Thread nD τ).loc main_arg0)) shapeCasts_S8x2048x8064_S16384x8064 := by
  unfold V V0
  simp only [hostOps0, List.flatten_cons, List.flatten_nil, List.append_nil, StableHlo.after_cons, StableHlo.after_nil]
  rw [StableHlo.reshape_result_ne (h := (by decide : main_v0 ≠ main_v2)), StableHlo.reshape_result_ne (h := (by decide : main_v0 ≠ main_v1)), StableHlo.reshape_result']
  rfl
theorem V_v1 (c : Dev nD) : V m c main_v1 = shapeCast S16384x1280 (m ((c : Thread nD τ).loc main_arg1)) shapeCasts_S8x2048x1280_S16384x1280 := by
  unfold V V0
  simp only [hostOps0, List.flatten_cons, List.flatten_nil, List.append_nil, StableHlo.after_cons, StableHlo.after_nil]
  rw [StableHlo.reshape_result_ne (h := (by decide : main_v1 ≠ main_v2)), StableHlo.reshape_result', StableHlo.reshape_result_ne (h := (by decide : main_arg1 ≠ main_v0))]
  rfl
theorem V_v2 (c : Dev nD) : V m c main_v2 = shapeCast S1x1280 (m ((c : Thread nD τ).loc main_arg2)) shapeCasts_S1280_S1x1280 := by
  unfold V V0
  simp only [hostOps0, List.flatten_cons, List.flatten_nil, List.append_nil, StableHlo.after_cons, StableHlo.after_nil]
  rw [StableHlo.reshape_result', StableHlo.reshape_result_ne (h := (by decide : main_arg2 ≠ main_v1)), StableHlo.reshape_result_ne (h := (by decide : main_arg2 ≠ main_v0))]
  rfl

theorem arr_inj : Function.Injective (Pipeline.arrRef spec0) := by decide

/-- What the lines after it leave in the second and the third result: the reshaped codes and scales. -/
theorem W_v4 (dats : (p : Fin 1) → (c : Dev nD) → Dat τ (Elt Ideal) Unit ℕ (UR sig nD τ) ℕ (cfgs p) c) (c : Dev nD) :
    Pipeline.afterTail₀ cfgs dats 0 (V0 m) [hostOps1] c main_v4
      = shapeCast S8x2048x8064 ((dats 0 c).arrAt 5 cfg0.N : S16384x8064.Idx → EReal) shapeCasts_S16384x8064_S8x2048x8064 := by
  unfold Pipeline.afterTail₀
  simp only [hostOps1, List.flatten_cons, List.flatten_nil, List.append_nil, StableHlo.after_cons, StableHlo.after_nil]
  rw [StableHlo.reshape_result_ne (h := (by decide : main_v4 ≠ main_v5)), StableHlo.reshape_result']
  exact congrArg (fun A : S16384x8064.Idx → EReal => shapeCast S8x2048x8064 A shapeCasts_S16384x8064_S8x2048x8064)
    (Pipeline.withArrays_arr spec0 arr_inj c (V0 m c) (fun w => (dats 0 c).arrAt w cfg0.N) 5)
theorem W_v5 (dats : (p : Fin 1) → (c : Dev nD) → Dat τ (Elt Ideal) Unit ℕ (UR sig nD τ) ℕ (cfgs p) c) (c : Dev nD) :
    Pipeline.afterTail₀ cfgs dats 0 (V0 m) [hostOps1] c main_v5
      = shapeCast S8064 ((dats 0 c).arrAt 6 cfg0.N : S1x8064.Idx → EReal) shapeCasts_S1x8064_S8064 := by
  unfold Pipeline.afterTail₀
  simp only [hostOps1, List.flatten_cons, List.flatten_nil, List.append_nil, StableHlo.after_cons, StableHlo.after_nil]
  rw [StableHlo.reshape_result', StableHlo.reshape_result_ne (h := (by decide : main_v3_2 ≠ main_v4))]
  exact congrArg (fun A : S1x8064.Idx → EReal => shapeCast S8064 A shapeCasts_S1x8064_S8064)
    (Pipeline.withArrays_arr spec0 arr_inj c (V0 m c) (fun w => (dats 0 c).arrAt w cfg0.N) 6)

end Cert.Proof.Ref

end
-- ==== Proof.RefValue.lean ====
/-
What the reference's arrays hold when its run over the extended reals ends: the functions of Proof/Values.lean. Its one
kernel has no grid, so each array is written once, as a whole.
-/
module

public import proofs.«01_k».proof.Proof.RefBlock
public import proofs.«01_k».proof.Proof.RefHost
public import Idealize.ShloMosaic.Lib.Pipeline.ValueKit

@[expose] public section

set_option maxRecDepth 16384
set_option maxHeartbeats 200000

noncomputable section

namespace Cert.Proof.Ref

open Cert.ReferenceIdeal Cert.ReferenceIdeal.Gen
open Idealize.ShloMosaic
open Idealize.ShloMosaic.TcCoe
open Idealize.SL Idealize.SL.RA
open Idealize.ShloMosaic.Pipeline (Dat)

variable (m : (ℓ : Loc nD τ sig) → Buf (Elt Ideal) ℓ)

/-! ## The arrays the region reads, as tables -/

def tabX (c : Dev nD) (r : Fin 16384) (j : Fin 8064) : EReal := V m c main_v0 (ix2 r j)
def tabDY (c : Dev nD) (r : Fin 16384) (n : Fin 1280) : EReal := V m c main_v1 (ix2 r n)
def tabDYS (c : Dev nD) (n : Fin 1280) : EReal := V m c main_v2 (ix2 0 n)
def tabMG (c : Dev nD) (j : Fin 8064) (n : Fin 1280) : EReal := V m c main_arg3 (ix2 j n)

/-- What the three results hold. -/
def resG (c : Dev nD) (y : S8064x1280.Idx) : EReal := gradOf (tabX m c) (tabDY m c) (tabDYS m c) (tabMG m c) (y 0) (y 1)
def resC (c : Dev nD) (y : S16384x8064.Idx) : EReal := codeOf (tabX m c) (y 0) (y 1)
def resS (c : Dev nD) (y : S1x8064.Idx) : EReal := scaleOf (tabX m c) (y 1)

theorem zero2 : (![0, 0] : Fin 2 → ℕ) = fun _ => 0 := by funext a; fin_cases a <;> rfl

/-! ## The output blocks from the input blocks -/

section
variable (x0 : Vec Ideal S16384x8064 .bf16) (x1 : Vec Ideal S16384x1280 .fp8e5m2) (x2 : Vec Ideal S1x1280 .f32) (x3 : Vec Ideal S8064x1280 .f32)

theorem out4_eq : out0_4 (F := Ideal) x0 x1 x2 x3
    = k0_pay2 (F := Ideal) (k0_pay3 x0) (k0_pay5 x0) (k0_pay6 x0) (k0_pay7 x0) (k0_pay8 x0) x1 x3 x2 := by
  unfold_out out0_4
  rw [View.ld_unit_zero zero2, View.ld_unit_zero zero2, View.ld_unit_zero zero2, View.ld_unit_zero zero2]
  exact View.canon_unit_zero zero2 _ _
theorem out5_eq : out0_5 (F := Ideal) x0 x1 x2 x3 = k0_pay1 (F := Ideal) (k0_pay3 x0) (k0_pay6 x0) (k0_pay7 x0) (k0_pay8 x0) := by
  unfold_out out0_5
  rw [View.ld_unit_zero zero2]
  exact View.canon_unit_zero zero2 _ _
theorem out6_eq : out0_6 (F := Ideal) x0 x1 x2 x3 = k0_pay5 (F := Ideal) x0 := by
  unfold_out out0_6
  rw [View.ld_unit_zero zero2]
  exact View.canon_unit_zero zero2 _ _
end

/-! ## The blocks are the arrays -/

theorem off_zero (i k n : ℕ) (h : i = 0) : i * k + n = n := by rw [h, Nat.zero_mul, Nat.zero_add]

theorem idx0 : ∀ (t : Fin cfg0.N) (a : Fin 2), win0_0.index t a = 0 := by decide +kernel
theorem idx1 : ∀ (t : Fin cfg0.N) (a : Fin 2), win0_1.index t a = 0 := by decide +kernel
theorem idx2 : ∀ (t : Fin cfg0.N) (a : Fin 2), win0_2.index t a = 0 := by decide +kernel
theorem idx3 : ∀ (t : Fin cfg0.N) (a : Fin 2), win0_3.index t a = 0 := by decide +kernel
theorem idx4 : ∀ (t : Fin cfg0.N) (a : Fin 2), win0_4.index t a = 0 := by decide +kernel
theorem idx5 : ∀ (t : Fin cfg0.N) (a : Fin 2), win0_5.index t a = 0 := by decide +kernel
theorem idx6 : ∀ (t : Fin cfg0.N) (a : Fin 2), win0_6.index t a = 0 := by decide +kernel

theorem blk0 (c : Dev nD) (t : Fin cfg0.N) : (iblk m c 0 t : S16384x8064.Idx → EReal) = V m c main_v0 := by
  funext y
  exact congrArg (V m c main_v0) (funext fun a => Fin.ext
    ((ValueKit.view_emb_slice_whole_unit_val main_v0 _ _ _ y a).trans (off_zero _ _ _ (idx0 t a))))
theorem blk1 (c : Dev nD) (t : Fin cfg0.N) : (iblk m c 1 t : S16384x1280.Idx → EReal) = V m c main_v1 := by
  funext y
  exact congrArg (V m c main_v1) (funext fun a => Fin.ext
    ((ValueKit.view_emb_slice_whole_unit_val main_v1 _ _ _ y a).trans (off_zero _ _ _ (idx1 t a))))
theorem blk2 (c : Dev nD) (t : Fin cfg0.N) : (iblk m c 2 t : S1x1280.Idx → EReal) = V m c main_v2 := by
  funext y
  exact congrArg (V m c main_v2) (funext fun a => Fin.ext
    ((ValueKit.view_emb_slice_whole_unit_val main_v2 _ _ _ y a).trans (off_zero _ _ _ (idx2 t a))))
theorem blk3 (c : Dev nD) (t : Fin cfg0.N) : (iblk m c 3 t : S8064x1280.Idx → EReal) = V m c main_arg3 := by
  funext y
  exact congrArg (V m c main_arg3) (funext fun a => Fin.ext
    ((ValueKit.view_emb_slice_whole_unit_val main_arg3 _ _ _ y a).trans (off_zero _ _ _ (idx3 t a))))

/-! ## The arrays at the end -/

theorem emb4 (t : Fin cfg0.N) (y : (win0_4.xblock (grid0.coords t)).Idx) (a : Fin 2) :
    ((win0_4.blk t).view.emb y a).val = (y a).val :=
  (ValueKit.view_emb_slice_whole_unit_val main_v3_0 _ _ _ y a).trans (off_zero _ _ _ (idx4 t a))
theorem cov4 : win0_4.Covers := by decide +kernel
theorem emb5 (t : Fin cfg0.N) (y : (win0_5.xblock (grid0.coords t)).Idx) (a : Fin 2) :
    ((win0_5.blk t).view.emb y a).val = (y a).val :=
  (ValueKit.view_emb_slice_whole_unit_val main_v3_1 _ _ _ y a).trans (off_zero _ _ _ (idx5 t a))
theorem cov5 : win0_5.Covers := by decide +kernel
theorem emb6 (t : Fin cfg0.N) (y : (win0_6.xblock (grid0.coords t)).Idx) (a : Fin 2) :
    ((win0_6.blk t).view.emb y a).val = (y a).val :=
  (ValueKit.view_emb_slice_whole_unit_val main_v3_2 _ _ _ y a).trans (off_zero _ _ _ (idx6 t a))
theorem cov6 : win0_6.Covers := by decide +kernel

/-- What the body leaves in each output block: the three functions, at the coordinates of the block. -/
@[irreducible] def lastG (c : Dev nD) (t : Fin cfg0.N) : S8064x1280.Idx → EReal :=
  out0_4 (F := Ideal) (iblk m c 0 t) (iblk m c 1 t) (iblk m c 2 t) (iblk m c 3 t)
@[irreducible] def lastC (c : Dev nD) (t : Fin cfg0.N) : S16384x8064.Idx → EReal :=
  out0_5 (F := Ideal) (iblk m c 0 t) (iblk m c 1 t) (iblk m c 2 t) (iblk m c 3 t)
@[irreducible] def lastS (c : Dev nD) (t : Fin cfg0.N) : S1x8064.Idx → EReal :=
  out0_6 (F := Ideal) (iblk m c 0 t) (iblk m c 1 t) (iblk m c 2 t) (iblk m c 3 t)
theorem after_4 (c : Dev nD) (t : Fin cfg0.N) : (dats m 0 c).after 4 t = lastG m c t := by
  unfold lastG
  exact after0_4 m c t
theorem after_5 (c : Dev nD) (t : Fin cfg0.N) : (dats m 0 c).after 5 t = lastC m c t := by
  unfold lastC
  exact after0_5 m c t
theorem after_6 (c : Dev nD) (t : Fin cfg0.N) : (dats m 0 c).after 6 t = lastS m c t := by
  unfold lastS
  exact after0_6 m c t
theorem outG_at (c : Dev nD) (t : Fin cfg0.N) (z y : S8064x1280.Idx) (h : ∀ a : Fin 2, (y a).val = (z a).val) :
    lastG m c t z = resG m c y := by
  obtain rfl : y = z := funext fun a => Fin.ext (h a)
  unfold lastG
  rw [out4_eq, blk0, blk1, blk2, blk3]
  obtain ⟨j, n, rfl⟩ : ∃ j n, y = ix2 j n := ⟨y 0, y 1, eq_ix2 y⟩
  exact grad_apply _ _ _ _ j n
theorem outC_at (c : Dev nD) (t : Fin cfg0.N) (z y : S16384x8064.Idx) (h : ∀ a : Fin 2, (y a).val = (z a).val) :
    lastC m c t z = resC m c y := by
  obtain rfl : y = z := funext fun a => Fin.ext (h a)
  unfold lastC
  rw [out5_eq, blk0]
  obtain ⟨r, j, rfl⟩ : ∃ r j, y = ix2 r j := ⟨y 0, y 1, eq_ix2 y⟩
  exact code_apply _ r j
theorem outS_at (c : Dev nD) (t : Fin cfg0.N) (z y : S1x8064.Idx) (h : ∀ a : Fin 2, (y a).val = (z a).val) :
    lastS m c t z = resS m c y := by
  obtain rfl : y = z := funext fun a => Fin.ext (h a)
  unfold lastS
  rw [out6_eq, blk0]
  obtain ⟨j, rfl⟩ : ∃ j : Fin 8064, y = ix2 0 j := ⟨y 1, (eq_ix2 y).trans (congrArg (fun i => ix2 i (y 1)) (Subsingleton.elim (α := Fin 1) _ _))⟩
  exact scale_apply _ j
theorem arr_4 (c : Dev nD) : (dats m 0 c).arrAt 4 cfg0.N = resG m c :=
  (dats m 0 c).arrAt_eq_of_covers 4 (resG m c) cov4 fun t hf y => by
    rw [after_4]
    refine (cast_eq _ _).trans ?_
    exact outG_at m c t (win0_4.xinj (grid0.coords t) y) _ (emb4 t y)
theorem arr_5 (c : Dev nD) : (dats m 0 c).arrAt 5 cfg0.N = resC m c :=
  (dats m 0 c).arrAt_eq_of_covers 5 (resC m c) cov5 fun t hf y => by
    rw [after_5]
    refine (cast_eq _ _).trans ?_
    exact outC_at m c t (win0_5.xinj (grid0.coords t) y) _ (emb5 t y)
theorem arr_6 (c : Dev nD) : (dats m 0 c).arrAt 6 cfg0.N = resS m c :=
  (dats m 0 c).arrAt_eq_of_covers 6 (resS m c) cov6 fun t hf y => by
    rw [after_6]
    refine (cast_eq _ _).trans ?_
    exact outS_at m c t (win0_6.xinj (grid0.coords t) y) _ (emb6 t y)

end Cert.Proof.Ref

end
-- ==== Proof.Algebraic.lean ====
/-
The equation: from the same arguments the kernel and the reference, over the extended reals, leave the same three
results. Both leave the functions of Proof/Values.lean of the reshaped arguments, reshaped again alike.
-/
module

public import proofs.«01_k».proof.Proof.IdealArrays
public import proofs.«01_k».proof.Proof.IdealHost
public import proofs.«01_k».proof.Proof.RefValue

@[expose] public section

set_option maxRecDepth 16384
set_option maxHeartbeats 400000

noncomputable section

namespace Cert.Proof.IdealRun

open Cert.KernelIdeal Cert.KernelIdeal.Gen
open Idealize.ShloMosaic
open Idealize.ShloMosaic.TcCoe
open Idealize.SL Idealize.SL.RA

variable (m : (ℓ : Loc nD τ sig) → Buf (Elt Ideal) ℓ) (ρ : Dev nD → PrngReg)

/-- The second and the third result: the codes and the scales, reshaped. -/
def resC3 (c : Dev nD) : S8x2048x8064.Idx → EReal := shapeCast S8x2048x8064 (resC m c) shapeCasts_S16384x8064_S8x2048x8064
def resS1 (c : Dev nD) : S8064.Idx → EReal := shapeCast S8064 (resS m c) shapeCasts_S1x8064_S8064

theorem tail_v4 (c : Dev nD) : Pipeline.afterTail₀ cfgs (dats m) 0 (V0 m) [hostOps1] c main_v4 = resC3 m c :=
  (W_v4 m (dats m) c).trans (congrArg (fun A : S16384x8064.Idx → EReal => shapeCast S8x2048x8064 A shapeCasts_S16384x8064_S8x2048x8064) (arr_5 m c))
theorem tail_v5 (c : Dev nD) : Pipeline.afterTail₀ cfgs (dats m) 0 (V0 m) [hostOps1] c main_v5 = resS1 m c :=
  (W_v5 m (dats m) c).trans (congrArg (fun A : S1x8064.Idx → EReal => shapeCast S8064 A shapeCasts_S1x8064_S8064) (arr_6 m c))

/-- The kernel's run over the extended reals: the three results, and the arguments as they were. -/
theorem run_values : θ_run (defs (F := Ideal)) (onTc (τ := τ) (main (F := Ideal))) ⟨m, fun _ => 0, ρ⟩ (fun r => ∀ c : Dev nD,
      r.2.mem ((c.tc : Thread nD τ).loc main_v3_0) = resG m c
      ∧ r.2.mem ((c.tc : Thread nD τ).loc main_v4) = resC3 m c
      ∧ r.2.mem ((c.tc : Thread nD τ).loc main_v5) = resS1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h.1 c).1 4).trans (arr_4 m c),
      ((h.1 c).2 main_v4 (Pipeline.mem_restRefs_of main_v4 (by decide) (by decide))).trans (tail_v4 m c),
      ((h.1 c).2 main_v5 (Pipeline.mem_restRefs_of main_v5 (by decide) (by decide))).trans (tail_v5 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).1 3).trans (((dats m 0 c).arrAt_in 3 rfl _).trans (V_main_arg3 m c))⟩) (run m ρ)

end Cert.Proof.IdealRun

namespace Cert.Proof.Ref

open Cert.ReferenceIdeal Cert.ReferenceIdeal.Gen
open Idealize.ShloMosaic
open Idealize.ShloMosaic.TcCoe
open Idealize.SL Idealize.SL.RA

variable (m : (ℓ : Loc nD τ sig) → Buf (Elt Ideal) ℓ) (ρ : Dev nD → PrngReg)

/-- The second and the third result: the codes and the scales, reshaped. -/
def resC3 (c : Dev nD) : S8x2048x8064.Idx → EReal := shapeCast S8x2048x8064 (resC m c) shapeCasts_S16384x8064_S8x2048x8064
def resS1 (c : Dev nD) : S8064.Idx → EReal := shapeCast S8064 (resS m c) shapeCasts_S1x8064_S8064

theorem tail_v4 (c : Dev nD) : Pipeline.afterTail₀ cfgs (dats m) 0 (V0 m) [hostOps1] c main_v4 = resC3 m c :=
  (W_v4 m (dats m) c).trans (congrArg (fun A : S16384x8064.Idx → EReal => shapeCast S8x2048x8064 A shapeCasts_S16384x8064_S8x2048x8064) (arr_5 m c))
theorem tail_v5 (c : Dev nD) : Pipeline.afterTail₀ cfgs (dats m) 0 (V0 m) [hostOps1] c main_v5 = resS1 m c :=
  (W_v5 m (dats m) c).trans (congrArg (fun A : S1x8064.Idx → EReal => shapeCast S8064 A shapeCasts_S1x8064_S8064) (arr_6 m c))

/-- The reference's run over the extended reals: the three results, and the arguments as they were. -/
theorem run_values : θ_run (defs (F := Ideal)) (onTc (τ := τ) (main (F := Ideal))) ⟨m, fun _ => 0, ρ⟩ (fun r => ∀ c : Dev nD,
      r.2.mem ((c.tc : Thread nD τ).loc main_v3_0) = resG m c
      ∧ r.2.mem ((c.tc : Thread nD τ).loc main_v4) = resC3 m c
      ∧ r.2.mem ((c.tc : Thread nD τ).loc main_v5) = resS1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h.1 c).1 4).trans (arr_4 m c),
      ((h.1 c).2 main_v4 (Pipeline.mem_restRefs_of main_v4 (by decide) (by decide))).trans (tail_v4 m c),
      ((h.1 c).2 main_v5 (Pipeline.mem_restRefs_of main_v5 (by decide) (by decide))).trans (tail_v5 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).1 3).trans (((dats m 0 c).arrAt_in 3 rfl _).trans (V_main_arg3 m c))⟩) (run_main_quiescent m ρ)

end Cert.Proof.Ref

namespace Cert.Proof

open Idealize.ShloMosaic
open Idealize.ShloMosaic.TcCoe

section
variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)
variable (c : Dev KernelIdeal.nD)

theorem tabX_eq
    (h : m' ((c.tc : Thread ReferenceIdeal.nD ReferenceIdeal.τ).loc ReferenceIdeal.main_arg0) = m ((c.tc : Thread KernelIdeal.nD KernelIdeal.τ).loc KernelIdeal.main_arg0)) :
    Ref.tabX m' c = IdealRun.tabX m c := by
  funext r j
  unfold Ref.tabX IdealRun.tabX
  rw [Ref.V_v0, IdealRun.V_v0]
  exact congrArg (fun A : KernelIdeal.S8x2048x8064.Idx → EReal => shapeCast KernelIdeal.S16384x8064 A KernelIdeal.Gen.facts.shapeCasts_S8x2048x8064_S16384x8064 (ix2 r j)) h
theorem tabDY_eq
    (h : m' ((c.tc : Thread ReferenceIdeal.nD ReferenceIdeal.τ).loc ReferenceIdeal.main_arg1) = m ((c.tc : Thread KernelIdeal.nD KernelIdeal.τ).loc KernelIdeal.main_arg1)) :
    Ref.tabDY m' c = IdealRun.tabDY m c := by
  funext r n
  unfold Ref.tabDY IdealRun.tabDY
  rw [Ref.V_v1, IdealRun.V_v1]
  exact congrArg (fun A : KernelIdeal.S8x2048x1280.Idx → EReal => shapeCast KernelIdeal.S16384x1280 A KernelIdeal.Gen.facts.shapeCasts_S8x2048x1280_S16384x1280 (ix2 r n)) h
theorem tabDYS_eq
    (h : m' ((c.tc : Thread ReferenceIdeal.nD ReferenceIdeal.τ).loc ReferenceIdeal.main_arg2) = m ((c.tc : Thread KernelIdeal.nD KernelIdeal.τ).loc KernelIdeal.main_arg2)) :
    Ref.tabDYS m' c = IdealRun.tabDYS m c := by
  funext n
  unfold Ref.tabDYS IdealRun.tabDYS
  rw [Ref.V_v2, IdealRun.V_v2]
  exact congrArg (fun A : KernelIdeal.S1280.Idx → EReal => shapeCast KernelIdeal.S1x1280 A KernelIdeal.Gen.facts.shapeCasts_S1280_S1x1280 (ix2 0 n)) h
theorem tabMG_eq
    (h : m' ((c.tc : Thread ReferenceIdeal.nD ReferenceIdeal.τ).loc ReferenceIdeal.main_arg3) = m ((c.tc : Thread KernelIdeal.nD KernelIdeal.τ).loc KernelIdeal.main_arg3)) :
    Ref.tabMG m' c = IdealRun.tabMG m c := by
  funext j n
  unfold Ref.tabMG IdealRun.tabMG
  rw [ReferenceIdeal.Gen.V_main_arg3, KernelIdeal.Gen.V_main_arg3]
  exact congrFun h (ix2 j n)

/-- Equal tables, equal results. -/
theorem resG_eq (hX : Ref.tabX m' c = IdealRun.tabX m c) (hDY : Ref.tabDY m' c = IdealRun.tabDY m c)
    (hS : Ref.tabDYS m' c = IdealRun.tabDYS m c) (hM : Ref.tabMG m' c = IdealRun.tabMG m c) : Ref.resG m' c = IdealRun.resG m c := by
  funext y
  unfold Ref.resG IdealRun.resG
  rw [hX, hDY, hS, hM]
theorem resC_eq (hX : Ref.tabX m' c = IdealRun.tabX m c) : Ref.resC m' c = IdealRun.resC m c := by
  funext y
  unfold Ref.resC IdealRun.resC
  rw [hX]
theorem resS_eq (hX : Ref.tabX m' c = IdealRun.tabX m c) : Ref.resS m' c = IdealRun.resS m c := by
  funext y
  unfold Ref.resS IdealRun.resS
  rw [hX]
theorem resC3_eq (hX : Ref.tabX m' c = IdealRun.tabX m c) : Ref.resC3 m' c = IdealRun.resC3 m c := by
  unfold Ref.resC3 IdealRun.resC3
  rw [resC_eq m m' c hX]
theorem resS1_eq (hX : Ref.tabX m' c = IdealRun.tabX m c) : Ref.resS1 m' c = IdealRun.resS1 m c := by
  unfold Ref.resS1 IdealRun.resS1
  rw [resS_eq m m' c hX]
end

/-- `Cert.algebraic_KernelIdeal_ReferenceIdeal`: the three results of the kernel and of the reference are equal. -/
theorem algebraic : Cert.algebraic_KernelIdeal_ReferenceIdeal := fun m g m' g' _ hm =>
  ⟨fun c => IdealRun.resG m c, fun c => IdealRun.resC3 m c, fun c => IdealRun.resS1 m c, IdealRun.run_values m g,
    (θ_run ReferenceIdeal.defs _ _).mono (fun _ h c => by
      have hX := tabX_eq m m' c (hm c).1
      exact ⟨(h c).1.trans (resG_eq m m' c hX (tabDY_eq m m' c (hm c).2.1) (tabDYS_eq m m' c (hm c).2.2.1) (tabMG_eq m m' c (hm c).2.2.2)),
        (h c).2.1.trans (resC3_eq m m' c hX), (h c).2.2.1.trans (resS1_eq m m' c hX), (h c).2.2.2⟩) (Ref.run_values m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The three frames, the kernel's preservation, and the equation of the three results. -/
theorem claim : Cert.Claim := ⟨Cert.Kernel.Gen.facts, Cert.KernelIdeal.Gen.facts, Cert.ReferenceIdeal.Gen.facts,
  KernelRun.frame_kernel, IdealRun.frame_kernel, fun m ρ _ => Cert.ReferenceIdeal.Gen.frame m ρ, trivial, algebraic⟩

end Cert.Proof

end
